-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_set_inputs_finite [hPre_mask_set_inputs_finite : Cert.Pre_mask_set_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mask_set_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_mask_set_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_mask_set_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_mask_set_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_mask_set_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_mask_set_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_mask_set_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_set_inputs_finite [hPre_mask_set_inputs_finite : Cert.Pre_mask_set_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_set_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_mask_set_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_mask_set_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_mask_set_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_mask_set_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_mask_set_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_mask_set_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_mask_set_inputs_finite [hKernelIdeal : Cert.KernelIdeal.Facts] [hPre_mask_set_inputs_finite : Cert.Pre_mask_set_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_set_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_mask_set_inputs_finite [hReferenceIdeal : Cert.ReferenceIdeal.Facts] [hPre_mask_set_inputs_finite : Cert.Pre_mask_set_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_set_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_mask_set_inputs_finite [hKernelIdeal : Cert.KernelIdeal.Facts] [hReferenceIdeal : Cert.ReferenceIdeal.Facts] [hPre_mask_set_inputs_finite : Cert.Pre_mask_set_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_set_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_mask_set_inputs_finite : Cert.Pre_mask_set_inputs_finite.Facts),
    quiescent_Kernel (hKernel := hKernel)
    ∧ quiescent_KernelIdeal (hKernelIdeal := hKernelIdeal)
    ∧ quiescent_KernelIdeal_pre_mask_set_inputs_finite (hKernelIdeal := hKernelIdeal) (hPre_mask_set_inputs_finite := hPre_mask_set_inputs_finite)
    ∧ quiescent_ReferenceIdeal (hReferenceIdeal := hReferenceIdeal)
    ∧ quiescent_ReferenceIdeal_pre_mask_set_inputs_finite (hReferenceIdeal := hReferenceIdeal) (hPre_mask_set_inputs_finite := hPre_mask_set_inputs_finite)
    ∧ preserves_Kernel_KernelIdeal
    ∧ algebraic_KernelIdeal_ReferenceIdeal_pre_mask_set_inputs_finite (hKernelIdeal := hKernelIdeal) (hReferenceIdeal := hReferenceIdeal) (hPre_mask_set_inputs_finite := hPre_mask_set_inputs_finite)
-- ==== Pre_mask_set_inputs_finite.lean ====
abbrev S4x2048x1024 : Shape := ⟨3, ![4, 2048, 1024]⟩
abbrev S4x2048x64 : Shape := ⟨3, ![4, 2048, 64]⟩
abbrev S4x2048 : Shape := ⟨2, ![4, 2048]⟩
abbrev S64x1024 : Shape := ⟨2, ![64, 1024]⟩
abbrev S64x64 : Shape := ⟨2, ![64, 64]⟩
abbrev S1024x64 : Shape := ⟨2, ![1024, 64]⟩
abbrev S1024x2048 : Shape := ⟨2, ![1024, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  bcast_S_S4x2048x64 : S_.BroadcastsInDim S4x2048x64 (![] : Fin 0 → Fin S4x2048x64.rank)
  bcast_S_S64x1024 : S_.BroadcastsInDim S64x1024 (![] : Fin 0 → Fin S64x1024.rank)
  bcast_S_S64x64 : S_.BroadcastsInDim S64x64 (![] : Fin 0 → Fin S64x64.rank)
  bcast_S_S1024x64 : S_.BroadcastsInDim S1024x64 (![] : Fin 0 → Fin S1024x64.rank)
  slices_S1024x2048_S1024x1024_0_1024 : S1024x2048.Slices ![0, 1024] S1024x1024
  bcast_S_S1024x1024 : S_.BroadcastsInDim S1024x1024 (![] : Fin 0 → Fin S1024x1024.rank)

variable [Facts]

def fn_part1 {F : FTy → Type} [FloatOps F] (main_arg2 : IVec S4x2048 1) (main_v2 : IVec S4x2048x1024 1) (main_v5 : IVec S4x2048x64 1) (main_v8 : IVec S64x1024 1) (main_v11 : IVec S64x64 1) (main_v14 : IVec S1024x64 1) (main_v16 : FVec F S1024x1024 .f32) (main_v17 : FVec F S1024x1024 .f32) : IVec S4x2048 1 × IVec S4x2048x1024 1 × IVec S4x2048x64 1 × IVec S64x1024 1 × IVec S64x64 1 × IVec S1024x64 1 × IVec S1024x1024 1 :=
  let main_v18 : IVec S1024x1024 1 := cmpf .olt main_v16 main_v17
  (main_arg2, main_v2, main_v5, main_v8, main_v11, main_v14, main_v18)

def fn {F : FTy → Type} [FloatOps F] (main_arg0 : FVec F S4x2048x1024 .f32) (main_arg1 : FVec F S4x2048x64 .f32) (main_arg2 : IVec S4x2048 1) (main_arg3 : FVec F S64x1024 .f32) (main_arg4 : FVec F S64x64 .f32) (main_arg5 : FVec F S1024x64 .f32) (main_arg6 : FVec F S1024x2048 .f32) (main_arg7 : FVec F S1024x1024 .f32) (main_arg8 : FVec F S1024 .f32) : IVec S4x2048 1 × IVec S4x2048x1024 1 × IVec S4x2048x64 1 × IVec S64x1024 1 × IVec S64x64 1 × IVec S1024x64 1 × IVec S1024x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x64 .f32 := Host.absf main_arg1
  let main_cst_0 : FVec F S_ .f32 := constant S_ .f32 0x7F800000#32
  let main_v4 : FVec F S4x2048x64 .f32 := broadcastInDim S4x2048x64 ![] bcast_S_S4x2048x64 main_cst_0
  let main_v5 : IVec S4x2048x64 1 := cmpf .olt main_v3 main_v4
  let main_v6 : FVec F S64x1024 .f32 := Host.absf main_arg3
  let main_cst_1 : FVec F S_ .f32 := constant S_ .f32 0x7F800000#32
  let main_v7 : FVec F S64x1024 .f32 := broadcastInDim S64x1024 ![] bcast_S_S64x1024 main_cst_1
  let main_v8 : IVec S64x1024 1 := cmpf .olt main_v6 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_v12 : FVec F S1024x64 .f32 := Host.absf main_arg5
  let main_cst_3 : FVec F S_ .f32 := constant S_ .f32 0x7F800000#32
  let main_v13 : FVec F S1024x64 .f32 := broadcastInDim S1024x64 ![] bcast_S_S1024x64 main_cst_3
  let main_v14 : IVec S1024x64 1 := cmpf .olt main_v12 main_v13
  let main_v15 : FVec F S1024x1024 .f32 := (extractStridedSlice S1024x1024 ![0, 1024] · slices_S1024x2048_S1024x1024_0_1024) main_arg6
  let main_v16 : FVec F S1024x1024 .f32 := Host.absf main_v15
  let main_cst_4 : FVec F S_ .f32 := constant S_ .f32 0x7F800000#32
  let main_v17 : FVec F S1024x1024 .f32 := broadcastInDim S1024x1024 ![] bcast_S_S1024x1024 main_cst_4
  fn_part1 (F := F) main_arg2 main_v2 main_v5 main_v8 main_v11 main_v14 main_v16 main_v17
-- ==== Kernel.lean ====
abbrev S4x2048x1024 : Shape := ⟨3, ![4, 2048, 1024]⟩
abbrev S4x2048x64 : Shape := ⟨3, ![4, 2048, 64]⟩
abbrev S4x2048 : Shape := ⟨2, ![4, 2048]⟩
abbrev S64x1024 : Shape := ⟨2, ![64, 1024]⟩
abbrev S64x64 : Shape := ⟨2, ![64, 64]⟩
abbrev S1024x64 : Shape := ⟨2, ![1024, 64]⟩
abbrev S1024x2048 : Shape := ⟨2, ![1024, 2048]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x2048x64 : Shape := ⟨3, ![1, 2048, 64]⟩
abbrev S2048x128 : Shape := ⟨2, ![2048, 128]⟩
abbrev S2048x64 : Shape := ⟨2, ![2048, 64]⟩
abbrev S2048x1024 : Shape := ⟨2, ![2048, 1024]⟩
abbrev S2048x1 : Shape := ⟨2, ![2048, 1]⟩
abbrev S2048x63 : Shape := ⟨2, ![2048, 63]⟩
abbrev S64x128 : Shape := ⟨2, ![64, 128]⟩
abbrev S512x1024 : Shape := ⟨2, ![512, 1024]⟩
abbrev S512x64 : Shape := ⟨2, ![512, 64]⟩
abbrev S512x2048 : Shape := ⟨2, ![512, 2048]⟩
abbrev S512x128 : Shape := ⟨2, ![512, 128]⟩
abbrev S512x1 : Shape := ⟨2, ![512, 1]⟩
abbrev S1x512x1024 : Shape := ⟨3, ![1, 512, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x2048x64, .f32⟩
  | .hbm, ⟨2, _⟩ => ⟨S4x2048, .i1⟩
  | .hbm, ⟨3, _⟩ => ⟨S64x1024, .f32⟩
  | .hbm, ⟨4, _⟩ => ⟨S64x64, .f32⟩
  | .hbm, ⟨5, _⟩ => ⟨S1024x64, .f32⟩
  | .hbm, ⟨6, _⟩ => ⟨S1024x2048, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x2048x64, .f32⟩
  | .local _ .vmem, ⟨3, _⟩ => ⟨S1x2048x64, .f32⟩
  | .local _ .vmem, ⟨4, _⟩ => ⟨S64x1024, .f32⟩
  | .local _ .vmem, ⟨5, _⟩ => ⟨S64x64, .f32⟩
  | .local _ .vmem, ⟨6, _⟩ => ⟨S1024x64, .f32⟩
  | .local _ .vmem, ⟨7, _⟩ => ⟨S1024x2048, .f32⟩
  | .local _ .vmem, ⟨8, _⟩ => ⟨S1024x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S2048x128, .bf16⟩
  | .local _ .vmem, ⟨13, _⟩ => ⟨S2048x64, .bf16⟩
  | .local _ .vmem, ⟨14, _⟩ => ⟨S64x1024, .bf16⟩
  | .local _ .vmem, ⟨15, _⟩ => ⟨S2048x1024, .bf16⟩
  | .local _ .vmem, ⟨16, _⟩ => ⟨S1024x64, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S4x2048x1024 : Shape := ⟨3, ![4, 2048, 1024]⟩
abbrev S4x2048x64 : Shape := ⟨3, ![4, 2048, 64]⟩
abbrev S4x2048 : Shape := ⟨2, ![4, 2048]⟩
abbrev S64x1024 : Shape := ⟨2, ![64, 1024]⟩
abbrev S64x64 : Shape := ⟨2, ![64, 64]⟩
abbrev S1024x64 : Shape := ⟨2, ![1024, 64]⟩
abbrev S1024x2048 : Shape := ⟨2, ![1024, 2048]⟩
abbrev S1024x1024 : Shape := ⟨2, ![1024, 1024]⟩
abbrev S1024 : Shape := ⟨1, ![1024]⟩
abbrev S4x2048x2048 : Shape := ⟨3, ![4, 2048, 2048]⟩
abbrev S_ : Shape := ⟨0, ![]⟩
abbrev S4x1x2048 : Shape := ⟨3, ![4, 1, 2048]⟩
abbrev S4x2048x1 : Shape := ⟨3, ![4, 2048, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x64, .f32⟩
  | .hbm, ⟨2, _⟩ => ⟨S4x2048, .i1⟩
  | .hbm, ⟨3, _⟩ => ⟨S64x1024, .f32⟩
  | .hbm, ⟨4, _⟩ => ⟨S64x64, .f32⟩
  | .hbm, ⟨5, _⟩ => ⟨S1024x64, .f32⟩
  | .hbm, ⟨6, _⟩ => ⟨S1024x2048, .f32⟩
  | .hbm, ⟨7, _⟩ => ⟨S1024x1024, .f32⟩
  | .hbm, ⟨8, _⟩ => ⟨S1024, .f32⟩
  | .hbm, ⟨9, _⟩ => ⟨S4x2048x64, .f32⟩
  | .hbm, ⟨10, _⟩ => ⟨S4x2048x64, .f32⟩
  | .hbm, ⟨11, _⟩ => ⟨S4x2048x1024, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S4x1x2048, .i1⟩
  | .hbm, ⟨17, _⟩ => ⟨S_, .f32⟩
  | .hbm, ⟨18, _⟩ => ⟨S_, .f32⟩
  | .hbm, ⟨19, _⟩ => ⟨S4x2048x2048, .i1⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048x2048, .i1⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048x2048, .f32⟩
  | .hbm, ⟨43, _⟩ => ⟨S4x2048x2048, .i1⟩
  | .hbm, ⟨44, _⟩ => ⟨S_, .f32⟩
  | .hbm, ⟨45, _⟩ => ⟨S4x2048x2048, .f32⟩
  | .hbm, ⟨46, _⟩ => ⟨S4x2048x2048, .f32⟩
  | .hbm, ⟨47, _⟩ => ⟨S_, .f32⟩
  | .hbm, ⟨48, _⟩ => ⟨S4x2048x2048, .f32⟩
  | .hbm, ⟨49, _⟩ => ⟨S4x2048x2048, .i1⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x2048x1024, .f32⟩
  | .hbm, ⟨54, _⟩ => ⟨S4x2048x2048, .f32⟩
  | .hbm, ⟨55, _⟩ => ⟨S4x2048x1024, .f32⟩
  | .hbm, ⟨56, _⟩ => ⟨S1x1x1024, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S_, .f32⟩
  | .hbm, ⟨62, _⟩ => ⟨S4x2048x1024, .f32⟩
  | .hbm, ⟨63, _⟩ => ⟨S4x2048x1024, .f32⟩
  | .hbm, ⟨64, _⟩ => ⟨S_, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_call1_call0_v0 : Ref sig .tc := ⟨.hbm, 39, rfl⟩
abbrev main_call1_v2 : Ref sig .tc := ⟨.hbm, 40, rfl⟩
abbrev main_call1_cst : Ref sig .tc := ⟨.hbm, 41, rfl⟩
abbrev main_call1_v3 : Ref sig .tc := ⟨.hbm, 42, rfl⟩
abbrev main_call1_v4 : Ref sig .tc := ⟨.hbm, 43, rfl⟩
abbrev main_call1_cst_0 : Ref sig .tc := ⟨.hbm, 44, rfl⟩
abbrev main_call1_call1_v0 : Ref sig .tc := ⟨.hbm, 45, rfl⟩
abbrev main_call1_v5 : Ref sig .tc := ⟨.hbm, 46, rfl⟩
abbrev main_call1_cst_1 : Ref sig .tc := ⟨.hbm, 47, rfl⟩
abbrev main_call1_v6 : Ref sig .tc := ⟨.hbm, 48, rfl⟩
abbrev main_call1_v7 : Ref sig .tc := ⟨.hbm, 49, rfl⟩
abbrev main_call1_cst_2 : Ref sig .tc := ⟨.hbm, 50, rfl⟩
abbrev main_call1_call2_v0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_v29 : Ref sig .tc := ⟨.hbm, 63, rfl⟩
abbrev main_cst_6 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩

abbrev nD : Nat := 1
abbrev τ : Topo := Topo.v7x

variable {F : FTy → Type} [FloatOps F]
-- ==== Proof.Block.lean ====
/-
  What one block computes. The kernel handles 1024 rows of `x` at a time, as two halves of 512 rows. Here the arithmetic
  of one half is written once, over an abstract half `xh`, and read at an entry: the entry depends on one row of `x`, on
  the five kept arrays and on the gate's bias.
-/
module

public import proofs.«01_k».proof.Proof.Gen.KernelIdeal.Skeleton
public import Idealize.ShloMosaic.Lib.Pipeline.Value
public import Idealize.ShloMosaic.Lib.ValueIdx
public import Idealize.ShloMosaic.Lib.ValueLayout
public import Idealize.ShloMosaic.Lib.MatmulPlain
public import Idealize.ShloMosaic.Lib.IdealHost
public import Idealize.ShloMosaic.PureOps.Ideal.Laws

@[expose] public section

noncomputable section

namespace Cert.PoolAttn

open Cert.KernelIdeal Cert.KernelIdeal.Gen Idealize.ShloMosaic Idealize.ShloMosaic.ValueIdx

/-- The unnormalised weight one row `x` gives to pool entry `p`: two to the power of its score. -/
def weight (x : Fin 1024 → EReal) (wq : S64x1024.Idx → EReal) (k : S2048x64.Idx → EReal) (p : Fin 2048) : EReal :=
  Ideal.exp2 (∑ s : Fin 64, (∑ d : Fin 1024, x d * wq (ix2 s d)) * k (ix2 p s))

/-- Column `s` of what one row retrieves from the pool: the weighted sum over the padded pool's column `s`, divided by
    the weighted sum over its column 64 (the column of ones). -/
def retrieved (x : Fin 1024 → EReal) (wq : S64x1024.Idx → EReal) (k : S2048x64.Idx → EReal) (pa : S2048x128.Idx → EReal)
    (s : Fin 64) : EReal :=
  Ideal.div (∑ p : Fin 2048, weight x wq k p * pa (ix2 p ⟨s.val, by omega⟩))
    (∑ p : Fin 2048, weight x wq k p * pa (ix2 p ⟨64, by omega⟩))

/-- Entry `e` of one row's result: the row's own entry plus the gate times the fused output. -/
def rowOut (x : Fin 1024 → EReal) (wq : S64x1024.Idx → EReal) (k : S2048x64.Idx → EReal) (pa : S2048x128.Idx → EReal)
    (w : S2048x1024.Idx → EReal) (mm : S1024x64.Idx → EReal) (bg : S1x1024.Idx → EReal) (e : Fin 1024) : EReal :=
  x e + Ideal.logistic ((∑ d : Fin 1024, x d * w (ix2 ⟨1024 + e.val, by omega⟩ d)) + bg (ix2 0 e))
    * ((∑ d : Fin 1024, x d * w (ix2 ⟨e.val, by omega⟩ d)) + ∑ s : Fin 64, retrieved x wq k pa s * mm (ix2 e s))

/-- The half's products with the stacked output and gate weights. -/
def halfCat (xh : FVec Ideal S512x1024 .bf16) (w : FVec Ideal S2048x1024 .bf16) : FVec Ideal S512x2048 .f32 :=
  matmul dot_S512x1024_S2048x1024_S512x2048_1_1_0_0_n_n none xh w (constant S512x2048 .f32 0x00000000#32)

/-- The half's scores against the pool's keys. -/
def halfScore (xh : FVec Ideal S512x1024 .bf16) (wq : FVec Ideal S64x1024 .bf16) (k : FVec Ideal S2048x64 .bf16) :
    FVec Ideal S512x2048 .f32 :=
  matmul dot_S512x64_S2048x64_S512x2048_1_1_0_0_n_n none
    (truncf .bf16 (matmul dot_S512x1024_S64x1024_S512x64_1_1_0_0_n_n none xh wq (constant S512x64 .f32 0x00000000#32))
      bitsLt_bf16_f32) k (constant S512x2048 .f32 0x00000000#32)

/-- The half's weighted sums over the padded pool. -/
def halfSum (xh : FVec Ideal S512x1024 .bf16) (wq : FVec Ideal S64x1024 .bf16) (k : FVec Ideal S2048x64 .bf16)
    (pa : FVec Ideal S2048x128 .bf16) : FVec Ideal S512x128 .f32 :=
  matmul dot_S512x2048_S2048x128_S512x128_1_0_0_1_n_n none (truncf .bf16 (exp2 (halfScore xh wq k)) bitsLt_bf16_f32) pa
    (constant S512x128 .f32 0x00000000#32)

/-- The half's retrieved columns. -/
def halfRetr (xh : FVec Ideal S512x1024 .bf16) (wq : FVec Ideal S64x1024 .bf16) (k : FVec Ideal S2048x64 .bf16)
    (pa : FVec Ideal S2048x128 .bf16) : FVec Ideal S512x64 .f32 :=
  divf (extractStridedSlice S512x64 ![0, 0] (halfSum xh wq k pa) slices_S512x128_o0_0_S512x64)
    (broadcastTo S512x64 (extractStridedSlice S512x1 ![0, 64] (halfSum xh wq k pa) slices_S512x128_o0_64_S512x1)
      broadcasts_S512x1_S512x64)

/-- The half's output before the gate. -/
def halfOut (xh : FVec Ideal S512x1024 .bf16) (wq : FVec Ideal S64x1024 .bf16) (k : FVec Ideal S2048x64 .bf16)
    (pa : FVec Ideal S2048x128 .bf16) (w : FVec Ideal S2048x1024 .bf16) (mm : FVec Ideal S1024x64 .bf16) :
    FVec Ideal S512x1024 .f32 :=
  addf (extractStridedSlice S512x1024 ![0, 0] (halfCat xh w) slices_S512x2048_o0_0_S512x1024)
    (matmul dot_S512x64_S1024x64_S512x1024_1_1_0_0_n_n none (truncf .bf16 (halfRetr xh wq k pa) bitsLt_bf16_f32) mm
      (constant S512x1024 .f32 0x00000000#32))

/-- The half's gate before the bias. -/
def halfGate (xh : FVec Ideal S512x1024 .bf16) (w : FVec Ideal S2048x1024 .bf16) : FVec Ideal S512x1024 .f32 :=
  extractStridedSlice S512x1024 ![0, 1024] (halfCat xh w) slices_S512x2048_o0_1024_S512x1024

/-- The half as it is stored. -/
def halfFinal (x u g b : FVec Ideal S512x1024 .f32) : FVec Ideal S1x512x1024 .f32 :=
  shapeCast S1x512x1024 (addf x (mulf (logistic (addf g b)) u)) shapeCasts_S512x1024_S1x512x1024

/-- A product against the rows of the second operand, onto a zero accumulator, at an entry. -/
theorem rowsProduct_apply {M K N : Nat} {φ : FTy} (x : FVec Ideal ⟨2, ![M, K]⟩ φ) (w : FVec Ideal ⟨2, ![N, K]⟩ φ)
    (r : Fin M) (j : Fin N) :
    matmul (F := Ideal) (DotDims.transposedRhs M K N) none x w (constant ⟨2, ![M, N]⟩ .f32 0x00000000#32) (ix2 r j)
      = ∑ d : Fin K, x (ix2 r d) * w (ix2 j d) := by
  refine (Ideal.matmul_transposedRhs_apply none x w _ r j).trans ?_
  rw [constant_apply, Ideal.ofBits_zero_f32, zero_add]

/-- A product against the columns of the second operand, onto a zero accumulator, at an entry. -/
theorem colsProduct_apply {M K N : Nat} {φ : FTy} (x : FVec Ideal ⟨2, ![M, K]⟩ φ) (w : FVec Ideal ⟨2, ![K, N]⟩ φ)
    (r : Fin M) (j : Fin N) :
    matmul (F := Ideal) (DotDims.plain M K N) none x w (constant ⟨2, ![M, N]⟩ .f32 0x00000000#32) (ix2 r j)
      = ∑ d : Fin K, x (ix2 r d) * w (ix2 d j) := by
  refine (Ideal.matmul_plain_apply none x w _ r j).trans ?_
  rw [constant_apply, Ideal.ofBits_zero_f32, zero_add]

variable (xh : FVec Ideal S512x1024 .bf16) (wq : FVec Ideal S64x1024 .bf16) (k : FVec Ideal S2048x64 .bf16)
  (pa : FVec Ideal S2048x128 .bf16) (w : FVec Ideal S2048x1024 .bf16) (mm : FVec Ideal S1024x64 .bf16)

/-- The product with the stacked weights at an entry: the row's sum against one row of the weights. -/
theorem halfCat_apply (r : Fin 512) (j : Fin 2048) :
    halfCat xh w (ix2 r j) = ∑ d : Fin 1024, xh (ix2 r d) * w (ix2 j d) := rowsProduct_apply xh w r j

/-- The score of a row against a pool entry. -/
theorem halfScore_apply (r : Fin 512) (p : Fin 2048) :
    halfScore xh wq k (ix2 r p) = ∑ s : Fin 64, (∑ d : Fin 1024, xh (ix2 r d) * wq (ix2 s d)) * k (ix2 p s) := by
  refine (rowsProduct_apply _ k r p).trans (Finset.sum_congr rfl fun s _ => ?_)
  rw [truncf_apply]
  exact congrArg (· * k (ix2 p s)) (rowsProduct_apply xh wq r s)

/-- A column of the weighted sums. -/
theorem halfSum_apply (r : Fin 512) (j : Fin 128) :
    halfSum xh wq k pa (ix2 r j) = ∑ p : Fin 2048, weight (fun d => xh (ix2 r d)) wq k p * pa (ix2 p j) := by
  refine (colsProduct_apply _ pa r j).trans (Finset.sum_congr rfl fun p _ => congrArg (· * pa (ix2 p j)) ?_)
  exact congrArg Ideal.exp2 (halfScore_apply xh wq k r p)

/-- A retrieved column. -/
theorem halfRetr_apply (r : Fin 512) (s : Fin 64) :
    halfRetr xh wq k pa (ix2 r s) = retrieved (fun d => xh (ix2 r d)) wq k pa s := by
  have h1 : extractStridedSlice S512x64 ![0, 0] (halfSum xh wq k pa) slices_S512x128_o0_0_S512x64 (ix2 r s)
      = halfSum xh wq k pa (ix2 r ⟨s.val, by omega⟩) :=
    extractStridedSlice_apply _ _ _ _ _ fun a => by
      match a with
      | ⟨0, _⟩ => exact (Nat.zero_add _).symm
      | ⟨1, _⟩ => exact (Nat.zero_add _).symm
  have h2 : broadcastTo S512x64 (extractStridedSlice S512x1 ![0, 64] (halfSum xh wq k pa) slices_S512x128_o0_64_S512x1)
      broadcasts_S512x1_S512x64 (ix2 r s) = halfSum xh wq k pa (ix2 r ⟨64, by omega⟩) := by
    refine (broadcastTo_apply _ _ _ (ix2 r (0 : Fin 1)) fun a => ?_).trans (extractStridedSlice_apply _ _ _ _ _ fun a => ?_)
    · match a with
      | ⟨0, _⟩ => rfl
      | ⟨1, _⟩ => rfl
    · match a with
      | ⟨0, _⟩ => exact (Nat.zero_add _).symm
      | ⟨1, _⟩ => rfl
  unfold halfRetr
  rw [divf_apply, h1, h2, halfSum_apply, halfSum_apply]
  rfl

/-- The output before the gate. -/
theorem halfOut_apply (r : Fin 512) (e : Fin 1024) :
    halfOut xh wq k pa w mm (ix2 r e) = (∑ d : Fin 1024, xh (ix2 r d) * w (ix2 ⟨e.val, by omega⟩ d))
      + ∑ s : Fin 64, retrieved (fun d => xh (ix2 r d)) wq k pa s * mm (ix2 e s) := by
  have h1 : extractStridedSlice S512x1024 ![0, 0] (halfCat xh w) slices_S512x2048_o0_0_S512x1024 (ix2 r e)
      = halfCat xh w (ix2 r ⟨e.val, by omega⟩) :=
    extractStridedSlice_apply _ _ _ _ _ fun a => by
      match a with
      | ⟨0, _⟩ => exact (Nat.zero_add _).symm
      | ⟨1, _⟩ => exact (Nat.zero_add _).symm
  unfold halfOut
  rw [addf_apply, h1, halfCat_apply]
  refine congrArg (_ + ·) ((rowsProduct_apply _ mm r e).trans (Finset.sum_congr rfl fun s _ => ?_))
  rw [truncf_apply]
  exact congrArg (· * mm (ix2 e s)) (halfRetr_apply xh wq k pa r s)

/-- The gate before the bias. -/
theorem halfGate_apply (r : Fin 512) (e : Fin 1024) :
    halfGate xh w (ix2 r e) = ∑ d : Fin 1024, xh (ix2 r d) * w (ix2 ⟨1024 + e.val, by omega⟩ d) := by
  refine (extractStridedSlice_apply _ _ _ _ _ fun a => ?_).trans (halfCat_apply xh w r ⟨1024 + e.val, by omega⟩)
  match a with
  | ⟨0, _⟩ => exact (Nat.zero_add _).symm
  | ⟨1, _⟩ => rfl

/-- The half as stored, at an entry. -/
theorem halfFinal_apply (x u g b : FVec Ideal S512x1024 .f32) (z : Fin 1) (r : Fin 512) (e : Fin 1024) :
    halfFinal x u g b (ix3 z r e) = x (ix2 r e) + Ideal.logistic (g (ix2 r e) + b (ix2 r e)) * u (ix2 r e) := by
  unfold halfFinal
  rw [shapeCast_ab_1ab_apply]
  rfl

/-- The bias repeated over the rows. -/
theorem bias_apply (b : FVec Ideal S1x1024 .f32) (r : Fin 512) (e : Fin 1024) :
    k0_pay19 (F := Ideal) b (ix2 r e) = b (ix2 0 e) := by
  unfold k0_pay19
  rw [shapeCast_self]
  refine broadcastTo_apply _ _ _ _ fun a => ?_
  match a with
  | ⟨0, _⟩ => rfl
  | ⟨1, _⟩ => rfl

/-- A half assembled from its parts is, at an entry, the row function. -/
theorem half_apply (x : FVec Ideal S512x1024 .f32) (b : FVec Ideal S1x1024 .f32) (z : Fin 1) (r : Fin 512) (e : Fin 1024) :
    halfFinal x (halfOut (truncf .bf16 x bitsLt_bf16_f32) wq k pa w mm) (halfGate (truncf .bf16 x bitsLt_bf16_f32) w)
        (k0_pay19 b) (ix3 z r e)
      = rowOut (fun d => x (ix2 r d)) wq k pa w mm b e := by
  rw [halfFinal_apply, halfOut_apply, halfGate_apply, bias_apply]
  rfl

/-- The rows of the block that a half takes, from row `o` on. -/
theorem rows_apply (v : FVec Ideal S1x1024x1024 .f32) (o : Nat) (ho : o + 512 ≤ 1024)
    (h : S1024x1024.Slices ![o, 0] S512x1024) (r : Fin 512) (d : Fin 1024) :
    extractStridedSlice S512x1024 ![o, 0] (k0_pay9 (F := Ideal) v) h (ix2 r d) = v (ix3 0 ⟨o + r.val, by omega⟩ d) := by
  refine (extractStridedSlice_apply _ _ _ _ (ix2 (⟨o + r.val, by omega⟩ : Fin 1024) d) fun a => ?_).trans ?_
  · match a with
    | ⟨0, _⟩ => rfl
    | ⟨1, _⟩ => exact (Nat.zero_add _).symm
  · exact shapeCast_1ab_ab_apply _ _ _ _

/-- What the first store of a block writes, at an entry: the row function of row `r`. -/
theorem first_half_apply (v : FVec Ideal S1x1024x1024 .f32) (b : FVec Ideal S1x1024 .f32) (z : Fin 1) (r : Fin 512) (e : Fin 1024) :
    k0_pay14 (F := Ideal) (k0_pay9 v) (k0_pay12 v wq k pa w mm) (k0_pay13 v w) b (ix3 z r e)
      = rowOut (fun d => v (ix3 0 ⟨0 + r.val, by omega⟩ d)) wq k pa w mm b e := by
  have h := half_apply wq k pa w mm (extractStridedSlice S512x1024 ![0, 0] (k0_pay9 v) slices_S1024x1024_o0_0_S512x1024) b z r e
  simp only [rows_apply v 0 (by omega)] at h
  exact h

/-- What the second store of a block writes, at an entry: the row function of row `512 + r`. -/
theorem second_half_apply (v : FVec Ideal S1x1024x1024 .f32) (b : FVec Ideal S1x1024 .f32) (z : Fin 1) (r : Fin 512) (e : Fin 1024) :
    k0_pay1 (F := Ideal) (k0_pay9 v) (k0_pay17 (k0_pay9 v) wq k pa w mm) (k0_pay18 (k0_pay9 v) w) (k0_pay19 b) (ix3 z r e)
      = rowOut (fun d => v (ix3 0 ⟨512 + r.val, by omega⟩ d)) wq k pa w mm b e := by
  have h := half_apply wq k pa w mm (extractStridedSlice S512x1024 ![512, 0] (k0_pay9 v) slices_S1024x1024_o512_0_S512x1024) b z r e
  simp only [rows_apply v 512 (by omega)] at h
  exact h

end Cert.PoolAttn

end
-- ==== Proof.Kept.lean ====
/-
  What the kernel keeps between its blocks: the scaled query weights, the stacked output and gate weights, the product of
  the output's right half with the value weights, and, per batch entry, the padded pool and the keys. Each is read at an
  entry here, from the arrays the kernel is given.
-/
module

public import proofs.«01_k».proof.Proof.Block
public import Idealize.ShloMosaic.PureOps.IdealRules

@[expose] public section

noncomputable section

namespace Cert.PoolAttn

open Cert.KernelIdeal Cert.KernelIdeal.Gen Idealize.ShloMosaic Idealize.ShloMosaic.ValueIdx

/-- The number the kernel's literal is named to: an eighth, turned from base e to base two. -/
abbrev scale : ℝ := (1 / 8) * (Real.log 2)⁻¹

/-- The left half of the output weights, read as a block. -/
abbrev ldLeft (x5 : Vec Ideal S1024x2048 .f32) : Vec Ideal S1024x1024 .f32 :=
  View.ld (Val := Elt Ideal) (e' := .f32) x5 (Rect.unit ![0, 0] S1024x1024.size inb_S1024x2048_S1024x1024_0_0)

/-- The right half of the output weights, read as a block. -/
abbrev ldRight (x5 : Vec Ideal S1024x2048 .f32) : Vec Ideal S1024x1024 .f32 :=
  View.ld (Val := Elt Ideal) (e' := .f32) x5 (Rect.unit ![0, 1024] S1024x1024.size inb_S1024x2048_S1024x1024_0_1024)

/-- The stacked weights: the left half of the output weights above the gate weights. -/
def cat (x5 : Vec Ideal S1024x2048 .f32) (x6 : Vec Ideal S1024x1024 .f32) : Vec Ideal S2048x1024 .bf16 := fun y =>
  if h : (y 0).val < 1024 then x5 (ix2 (⟨(y 0).val, h⟩ : Fin 1024) (⟨(y 1).val, (y 1).isLt.trans (by decide)⟩ : Fin 2048))
  else x6 (ix2 (⟨(y 0).val - 1024, by have : (y 0).val < 2048 := (y 0).isLt; omega⟩ : Fin 1024) (y 1))

/-- The upper store's block is what it was given. -/
theorem pay3_eq (x : Vec Ideal S1024x1024 .f32) : k0_pay3 (F := Ideal) x = x := shapeCast_self _ _

/-- The lower store's block is what it was given. -/
theorem pay4_eq (x : Vec Ideal S1024x1024 .f32) : k0_pay4 (F := Ideal) x = x := shapeCast_self _ _

/-- The two stores into the stacked weights leave `cat`. -/
theorem canon_cat (x5 : Vec Ideal S1024x2048 .f32) (x6 : Vec Ideal S1024x1024 .f32) :
    View.canon (Val := Elt Ideal) (s := S2048x1024) (e := .bf16)
        [⟨Rect.unit ![1024, 0] S1024x1024.size inb_S2048x1024_S1024x1024_1024_0, k0_pay4 (F := Ideal) x6⟩,
          ⟨Rect.unit ![0, 0] S1024x1024.size inb_S2048x1024_S1024x1024_0_0, k0_pay3 (F := Ideal) (ldLeft x5)⟩]
      = cat x5 x6 := by
  funext y
  refine View.canon_apply_of_pieces (cat x5 x6) _ (fun p hp x => ?_) y ?_
  · simp only [List.mem_cons, List.not_mem_nil, or_false] at hp
    rcases hp with rfl | rfl
    · have hx : (x 0).val < 1024 := (x 0).isLt
      refine Eq.trans ?_ (dif_neg (show ¬(1024 + 1 * (x 0).val) < 1024 by omega)).symm
      refine (congrFun (pay4_eq x6) x).trans (congrArg x6 ?_)
      refine funext fun a => Fin.ext ?_
      match a with
      | ⟨0, _⟩ => show (x 0).val = 1024 + 1 * (x 0).val - 1024; omega
      | ⟨1, _⟩ => show (x 1).val = 0 + 1 * (x 1).val; omega
    · have hx : (x 0).val < 1024 := (x 0).isLt
      refine Eq.trans ?_ (dif_pos (show (0 + 1 * (x 0).val) < 1024 by omega)).symm
      refine (congrFun (pay3_eq (ldLeft x5)) x).trans (congrArg x5 ?_)
      refine funext fun a => Fin.ext ?_
      match a with
      | ⟨0, _⟩ => show 0 + 1 * (x 0).val = 0 + 1 * (x 0).val; omega
      | ⟨1, _⟩ => show 0 + 1 * (x 1).val = 0 + 1 * (x 1).val; omega
  · have h0 : (y 0).val < 2048 := (y 0).isLt
    have h1 : (y 1).val < 1024 := (y 1).isLt
    by_cases h : (y 0).val < 1024
    · refine ⟨_, List.mem_cons_of_mem _ List.mem_cons_self, ?_⟩
      refine (Rect.mem_set_unit (inb := inb_S2048x1024_S1024x1024_0_0)).mpr fun a => ?_
      match a with
      | ⟨0, _⟩ => exact ⟨Nat.zero_le _, show (y 0).val < 0 + 1024 by omega⟩
      | ⟨1, _⟩ => exact ⟨Nat.zero_le _, show (y 1).val < 0 + 1024 by omega⟩
    · refine ⟨_, List.mem_cons_self, (Rect.mem_set_unit (inb := inb_S2048x1024_S1024x1024_1024_0)).mpr fun a => ?_⟩
      match a with
      | ⟨0, _⟩ => exact ⟨show 1024 ≤ (y 0).val by omega, show (y 0).val < 1024 + 1024 by omega⟩
      | ⟨1, _⟩ => exact ⟨Nat.zero_le _, show (y 1).val < 0 + 1024 by omega⟩

/-- The upper half of the stacked weights is the left half of the output weights. -/
theorem cat_upper (x5 : Vec Ideal S1024x2048 .f32) (x6 : Vec Ideal S1024x1024 .f32) (e d : Fin 1024) :
    cat x5 x6 (ix2 (⟨e.val, by omega⟩ : Fin 2048) d) = x5 (ix2 e (⟨d.val, by omega⟩ : Fin 2048)) :=
  dif_pos e.isLt

/-- The lower half of the stacked weights is the gate weights. -/
theorem cat_lower (x5 : Vec Ideal S1024x2048 .f32) (x6 : Vec Ideal S1024x1024 .f32) (e d : Fin 1024) :
    cat x5 x6 (ix2 (⟨1024 + e.val, by omega⟩ : Fin 2048) d) = x6 (ix2 e d) := by
  refine (dif_neg (show ¬(1024 + e.val) < 1024 by omega)).trans (congrArg x6 (funext fun a => Fin.ext ?_))
  match a with
  | ⟨0, _⟩ => show 1024 + e.val - 1024 = e.val; omega
  | ⟨1, _⟩ => rfl

/-- The scaled query weights. -/
theorem wq_apply (x2 : Vec Ideal S64x1024 .f32) (s : Fin 64) (d : Fin 1024) :
    k0_pay2 (F := Ideal) x2 (ix2 s d) = x2 (ix2 s d) * (scale : EReal) := by
  unfold k0_pay2
  rw [shapeCast_self]
  refine congrArg (x2 (ix2 s d) * ·) ?_
  exact IdealRules.named_const.ideal_named_scalar _ _ _ _ rfl

/-- The product of the output's right half with the value weights. -/
theorem mm_apply (x5 : Vec Ideal S1024x2048 .f32) (x4 : Vec Ideal S1024x64 .f32) (e : Fin 1024) (s : Fin 64) :
    k0_pay5 (F := Ideal) (ldRight x5) x4 (ix2 e s)
      = ∑ d : Fin 1024, x5 (ix2 e (⟨1024 + d.val, by omega⟩ : Fin 2048)) * x4 (ix2 d s) := by
  unfold k0_pay5
  rw [shapeCast_self]
  refine (colsProduct_apply (φ := .bf16) (M := 1024) (K := 1024) (N := 64) _ _ e s).trans
    (Finset.sum_congr rfl fun d _ => congrArg (· * x4 (ix2 d s)) (congrArg x5 (funext fun a => Fin.ext ?_)))
  match a with
  | ⟨0, _⟩ => show 0 + 1 * e.val = e.val; omega
  | ⟨1, _⟩ => show 1024 + 1 * d.val = 1024 + d.val; omega

/-- The padded pool, below column 64: the pool. -/
theorem pad_pool (x1 : Vec Ideal S1x2048x64 .f32) (p : Fin 2048) (s : Fin 64) :
    k0_pay6 (F := Ideal) x1 (ix2 p (⟨s.val, by omega⟩ : Fin 128)) = x1 (ix3 0 p s) := by
  unfold k0_pay6
  refine Eq.trans (concatenate_apply_piece (t := S2048x128) 1 _ _ _ 0 (by simp) S2048x64 _ rfl rfl 0 rfl (ix2 p s) (fun b hb => ?_) ?_) ?_
  · match b with
    | ⟨0, _⟩ => rfl
    | ⟨1, _⟩ => exact absurd rfl hb
  · exact Nat.zero_add _
  · exact shapeCast_1ab_ab_apply _ _ _ _

/-- The padded pool at column 64: one. -/
theorem pad_one (x1 : Vec Ideal S1x2048x64 .f32) (p : Fin 2048) :
    k0_pay6 (F := Ideal) x1 (ix2 p (⟨64, by omega⟩ : Fin 128)) = 1 := by
  unfold k0_pay6
  refine Eq.trans (concatenate_apply_piece (t := S2048x128) 1 _ _ _ 1 (by simp) S2048x1 _ rfl rfl 64 rfl (ix2 p (0 : Fin 1)) (fun b hb => ?_) ?_) ?_
  · match b with
    | ⟨0, _⟩ => rfl
    | ⟨1, _⟩ => exact absurd rfl hb
  · rfl
  · exact Ideal.ofBits_one_bf16

/-- The key weights padded with zeros to the padded pool's width: below column 64, the weights; from there on, zero. -/
theorem pad_key (x3 : Vec Ideal S64x64 .f32) (v : EReal) (s j : Fin 64) :
    concatenate S64x128 1 [⟨S64x64, x3⟩, ⟨S64x64, fun _ => v⟩] concatenates_S64x64_S64x64_S64x128_d1
        (ix2 s (Fin.castAdd 64 j)) = x3 (ix2 s j)
    ∧ concatenate S64x128 1 [⟨S64x64, x3⟩, ⟨S64x64, fun _ => v⟩] concatenates_S64x64_S64x64_S64x128_d1
        (ix2 s (Fin.natAdd 64 j)) = v := by
  refine ⟨?_, ?_⟩
  · refine concatenate_apply_piece (t := S64x128) 1 _ _ _ 0 (by simp) S64x64 _ rfl rfl 0 rfl (ix2 s j) (fun b hb => ?_) ?_
    · match b with
      | ⟨0, _⟩ => rfl
      | ⟨1, _⟩ => exact absurd rfl hb
    · exact Nat.zero_add _
  · refine concatenate_apply_piece (t := S64x128) 1 _ _ _ 1 (by simp) S64x64 (fun _ => v) rfl rfl 64 rfl (ix2 s j) (fun b hb => ?_) ?_
    · match b with
      | ⟨0, _⟩ => rfl
      | ⟨1, _⟩ => exact absurd rfl hb
    · rfl

/-- The keys: the pool against the key weights. The padding adds products with zero only. -/
theorem key_apply (x1 : Vec Ideal S1x2048x64 .f32) (x3 : Vec Ideal S64x64 .f32) (p : Fin 2048) (s : Fin 64) :
    k0_pay8 (F := Ideal) x1 x3 (ix2 p s) = ∑ j : Fin 64, x1 (ix3 0 p j) * x3 (ix2 s j) := by
  unfold k0_pay8
  rw [shapeCast_self]
  refine (rowsProduct_apply (φ := .bf16) (M := 2048) (K := 128) (N := 64) _ _ p s).trans ?_
  refine (Fin.sum_univ_add (a := 64) (b := 64) _).trans ?_
  have hz : (Scalar.ofBits .f32 0x00000000#32 : Ideal .f32) = (0 : EReal) := Ideal.ofBits_zero_f32
  refine (congrArg₂ (· + ·) (Finset.sum_congr rfl fun j _ => congrArg₂ (· * ·) (pad_pool x1 p j) (pad_key x3 _ s j).1)
    (Finset.sum_eq_zero fun j _ => (congrArg (_ * ·) ((pad_key x3 _ s j).2.trans hz)).trans (mul_zero _))).trans (add_zero _)

/-- The padded pool as kept. -/
theorem pay7_eq (x1 : Vec Ideal S1x2048x64 .f32) : k0_pay7 (F := Ideal) x1 = k0_pay6 x1 := shapeCast_self _ _

/-- One block's result, entry by entry: the row function of each of its rows. -/
def blockOut (v : Vec Ideal S1x1024x1024 .f32) (wq : Vec Ideal S64x1024 .bf16) (k : Vec Ideal S2048x64 .bf16)
    (pa : Vec Ideal S2048x128 .bf16) (w : Vec Ideal S2048x1024 .bf16) (mm : Vec Ideal S1024x64 .bf16)
    (b : Vec Ideal S1x1024 .f32) : Vec Ideal S1x1024x1024 .f32 := fun y =>
  rowOut (fun d => v (ix3 0 (y 1) d)) wq k pa w mm b (y 2)

/-- A row function read at a row and an entry given by their numbers. -/
theorem blockOut_at (v : Vec Ideal S1x1024x1024 .f32) (wq : Vec Ideal S64x1024 .bf16) (k : Vec Ideal S2048x64 .bf16)
    (pa : Vec Ideal S2048x128 .bf16) (w : Vec Ideal S2048x1024 .bf16) (mm : Vec Ideal S1024x64 .bf16)
    (b : Vec Ideal S1x1024 .f32) (y : S1x1024x1024.Idx) (r e : Fin 1024) (hr : (y 1).val = r.val) (he : (y 2).val = e.val) :
    rowOut (fun d => v (ix3 0 r d)) wq k pa w mm b e = blockOut v wq k pa w mm b y := by
  obtain rfl : r = y 1 := Fin.ext hr.symm
  obtain rfl : e = y 2 := Fin.ext he.symm
  rfl

/-- The two stores into a block's result leave `blockOut`. -/
theorem canon_block (v : Vec Ideal S1x1024x1024 .f32) (wq : Vec Ideal S64x1024 .bf16) (k : Vec Ideal S2048x64 .bf16)
    (pa : Vec Ideal S2048x128 .bf16) (w : Vec Ideal S2048x1024 .bf16) (mm : Vec Ideal S1024x64 .bf16)
    (b : Vec Ideal S1x1024 .f32) :
    View.canon (Val := Elt Ideal) (s := S1x1024x1024) (e := .f32)
        [⟨Rect.unit ![0, 512, 0] S1x512x1024.size inb_S1x1024x1024_S1x512x1024_0_512_0,
            k0_pay1 (F := Ideal) (k0_pay9 v) (k0_pay17 (k0_pay9 v) wq k pa w mm) (k0_pay18 (k0_pay9 v) w) (k0_pay19 b)⟩,
          ⟨Rect.unit ![0, 0, 0] S1x512x1024.size inb_S1x1024x1024_S1x512x1024_0_0_0,
            k0_pay14 (F := Ideal) (k0_pay9 v) (k0_pay12 v wq k pa w mm) (k0_pay13 v w) b⟩]
      = blockOut v wq k pa w mm b := by
  funext y
  refine View.canon_apply_of_pieces (blockOut v wq k pa w mm b) _ (fun p hp x => ?_) y ?_
  · simp only [List.mem_cons, List.not_mem_nil, or_false] at hp
    rcases hp with rfl | rfl
    · refine (congrArg _ (eq_ix3 (n0 := 1) (n1 := 512) (n2 := 1024) x)).trans
        ((second_half_apply wq k pa w mm v b _ _ _).trans (blockOut_at v wq k pa w mm b _ _ _ ?_ ?_))
      · show 512 + 1 * (x 1).val = 512 + (x 1).val; omega
      · show 0 + 1 * (x 2).val = (x 2).val; omega
    · refine (congrArg _ (eq_ix3 (n0 := 1) (n1 := 512) (n2 := 1024) x)).trans
        ((first_half_apply wq k pa w mm v b _ _ _).trans (blockOut_at v wq k pa w mm b _ _ _ ?_ ?_))
      · show 0 + 1 * (x 1).val = 0 + (x 1).val; omega
      · show 0 + 1 * (x 2).val = (x 2).val; omega
  · have h0 : (y 0).val < 1 := (y 0).isLt
    have h1 : (y 1).val < 1024 := (y 1).isLt
    have h2 : (y 2).val < 1024 := (y 2).isLt
    by_cases h : (y 1).val < 512
    · refine ⟨_, List.mem_cons_of_mem _ List.mem_cons_self, ?_⟩
      refine (Rect.mem_set_unit (inb := inb_S1x1024x1024_S1x512x1024_0_0_0)).mpr fun a => ?_
      match a with
      | ⟨0, _⟩ => exact ⟨Nat.zero_le _, show (y 0).val < 0 + 1 by omega⟩
      | ⟨1, _⟩ => exact ⟨Nat.zero_le _, show (y 1).val < 0 + 512 by omega⟩
      | ⟨2, _⟩ => exact ⟨Nat.zero_le _, show (y 2).val < 0 + 1024 by omega⟩
    · refine ⟨_, List.mem_cons_self, (Rect.mem_set_unit (inb := inb_S1x1024x1024_S1x512x1024_0_512_0)).mpr fun a => ?_⟩
      match a with
      | ⟨0, _⟩ => exact ⟨Nat.zero_le _, show (y 0).val < 0 + 1 by omega⟩
      | ⟨1, _⟩ => exact ⟨show 512 ≤ (y 1).val by omega, show (y 1).val < 512 + 512 by omega⟩
      | ⟨2, _⟩ => exact ⟨Nat.zero_le _, show (y 2).val < 0 + 1024 by omega⟩

end Cert.PoolAttn

end
-- ==== Proof.Pieces.lean ====
/-
  What each kind of grid point leaves in the result block and in the kept arrays, as a function of the blocks it reads.
  The first point fills every kept array (case A), the first point of a later batch entry refills the pool and the keys
  (case C), the other points fill none (case B).
-/
module

public import proofs.«01_k».proof.Proof.Gen.KernelIdeal.Value
public import proofs.«01_k».proof.Proof.Kept

@[expose] public section

noncomputable section

namespace Cert.PoolAttn

open Cert.KernelIdeal Cert.KernelIdeal.Gen Idealize.ShloMosaic Idealize.ShloMosaic.TcCoe Idealize.SL Idealize.SL.Sem

/-- The two-axis origin. -/
theorem hz2 : (![0, 0] : Fin 2 → Nat) = fun _ => 0 := funext fun a => by fin_cases a <;> rfl

/-- The three-axis origin. -/
theorem hz3 : (![0, 0, 0] : Fin 3 → Nat) = fun _ => 0 := funext fun a => by fin_cases a <;> rfl

/-- The stacked weights read back whole after their two stores. -/
theorem readCov_cat (v : View sig .tc .vmem S2048x1024 .bf16) (x5 : Vec Ideal S1024x2048 .f32) (x6 : Vec Ideal S1024x1024 .f32) :
    v.readCov (Val := Elt Ideal)
        [⟨Rect.unit ![1024, 0] S1024x1024.size inb_S2048x1024_S1024x1024_1024_0, k0_pay4 (F := Ideal) x6⟩,
          ⟨Rect.unit ![0, 0] S1024x1024.size inb_S2048x1024_S1024x1024_0_0, k0_pay3 (F := Ideal) (ldLeft x5)⟩]
        (Rect.unit ![0, 0] S2048x1024.size inb_S2048x1024_S2048x1024_0_0).toLoadRect = cat x5 x6 := by
  rw [View.readCov_eq_canon', canon_cat]
  exact View.ld_unit_zero (S := S2048x1024) hz2 _ _

section

variable (c : Dev nD) (i : grid0.Coords)
  (arg2 : Memref sig .tc .vmem S1x1024x1024 .f32) (harg2 : arg2.IsWhole)
  (arg3 : Memref sig .tc .vmem S1x2048x64 .f32) (harg3 : arg3.IsWhole)
  (arg4 : Memref sig .tc .vmem S64x1024 .f32) (harg4 : arg4.IsWhole)
  (arg5 : Memref sig .tc .vmem S64x64 .f32) (harg5 : arg5.IsWhole)
  (arg6 : Memref sig .tc .vmem S1024x64 .f32) (harg6 : arg6.IsWhole)
  (arg7 : Memref sig .tc .vmem S1024x2048 .f32) (harg7 : arg7.IsWhole)
  (arg8 : Memref sig .tc .vmem S1024x1024 .f32) (harg8 : arg8.IsWhole)
  (arg9 : Memref sig .tc .vmem S1x1024 .f32) (harg9 : arg9.IsWhole)
  (arg10 : Memref sig .tc .vmem S1x1024x1024 .f32) (harg10 : arg10.IsWhole)
  (arg11 : Memref sig .tc .vmem S2048x128 .bf16) (harg11 : arg11.IsWhole)
  (arg12 : Memref sig .tc .vmem S2048x64 .bf16) (harg12 : arg12.IsWhole)
  (arg13 : Memref sig .tc .vmem S64x1024 .bf16) (harg13 : arg13.IsWhole)
  (arg14 : Memref sig .tc .vmem S2048x1024 .bf16) (harg14 : arg14.IsWhole)
  (arg15 : Memref sig .tc .vmem S1024x64 .bf16) (harg15 : arg15.IsWhole)
  (x0 : Vec Ideal S1x1024x1024 .f32)
  (x1 : Vec Ideal S1x2048x64 .f32)
  (x2 : Vec Ideal S64x1024 .f32)
  (x3 : Vec Ideal S64x64 .f32)
  (x4 : Vec Ideal S1024x64 .f32)
  (x5 : Vec Ideal S1024x2048 .f32)
  (x6 : Vec Ideal S1024x1024 .f32)
  (x7 : Vec Ideal S1x1024 .f32)
  (s0 : Vec Ideal S2048x128 .bf16)
  (s1 : Vec Ideal S2048x64 .bf16)
  (s2 : Vec Ideal S64x1024 .bf16)
  (s3 : Vec Ideal S2048x1024 .bf16)
  (s4 : Vec Ideal S1024x64 .bf16)

/-- The first point's result block. -/
theorem out_A (hc0 : cond0_0 i) (hc1 : cond0_1 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = blockOut x0 (k0_pay2 x2) (k0_pay8 x1 x3) (k0_pay7 x1) (cat x5 x6) (k0_pay5 (ldRight x5) x4) x7 := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  rw [← readCov_cat arg14.view x5 x6]
  exact canon_block _ _ _ _ _ _ _

/-- The result block of a point that fills no kept array. -/
theorem out_B (hc0 : ¬cond0_0 i) (hc1 : ¬cond0_1 i) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 s0 s1 s2 s3 s4 = blockOut x0 s2 s1 s0 s3 s4 x7 := by
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 s0 s1 s2 s3 s4)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact canon_block _ _ _ _ _ _ _

/-- The result block of the first point of a later batch entry. -/
theorem out_C (hc0 : ¬cond0_0 i) (hc1 : cond0_1 i) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 s2 s3 s4 = blockOut x0 s2 (k0_pay8 x1 x3) (k0_pay7 x1) s3 s4 x7 := by
  unfold out0_C_8
  rw [View.read_writes_eq_canon _ _ _ (cover0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 s2 s3 s4)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact canon_block _ _ _ _ _ _ _

/-- The padded pool that the first point leaves. -/
theorem scratch_A_0 (hc0 : cond0_0 i) (hc1 : cond0_1 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay7 x1 := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact View.canon_unit_zero (S := S2048x128) hz2 _ _

/-- The keys that the first point leaves. -/
theorem scratch_A_1 (hc0 : cond0_0 i) (hc1 : cond0_1 i) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay8 x1 x3 := by
  unfold sout0_A_1
  rw [View.read_writes_eq_canon _ _ _ (scover0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact View.canon_unit_zero (S := S2048x64) hz2 _ _

/-- The scaled query weights that the first point leaves. -/
theorem scratch_A_2 (hc0 : cond0_0 i) (hc1 : cond0_1 i) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay2 x2 := by
  unfold sout0_A_2
  rw [View.read_writes_eq_canon _ _ _ (scover0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact View.canon_unit_zero (S := S64x1024) hz2 _ _

/-- The stacked weights that the first point leaves. -/
theorem scratch_A_3 (hc0 : cond0_0 i) (hc1 : cond0_1 i) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = cat x5 x6 := by
  unfold sout0_A_3
  rw [View.read_writes_eq_canon _ _ _ (scover0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact canon_cat _ _

/-- The output product that the first point leaves. -/
theorem scratch_A_4 (hc0 : cond0_0 i) (hc1 : cond0_1 i) :
    sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay5 (ldRight x5) x4 := by
  unfold sout0_A_4
  rw [View.read_writes_eq_canon _ _ _ (scover0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact View.canon_unit_zero (S := S1024x64) hz2 _ _

/-- The padded pool that the first point of a later batch entry leaves. -/
theorem scratch_C_0 (hc0 : ¬cond0_0 i) (hc1 : cond0_1 i) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 s2 s3 s4 = k0_pay7 x1 := by
  unfold sout0_C_0
  rw [View.read_writes_eq_canon _ _ _ (scover0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 s2 s3 s4)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact View.canon_unit_zero (S := S2048x128) hz2 _ _

/-- The keys that the first point of a later batch entry leaves. -/
theorem scratch_C_1 (hc0 : ¬cond0_0 i) (hc1 : cond0_1 i) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 s2 s3 s4 = k0_pay8 x1 x3 := by
  unfold sout0_C_1
  rw [View.read_writes_eq_canon _ _ _ (scover0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 s2 s3 s4)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1024x1024) hz3, View.ld_unit_zero (S := S1x2048x64) hz3, View.ld_unit_zero (S := S64x1024) hz2, View.ld_unit_zero (S := S64x64) hz2, View.ld_unit_zero (S := S1024x64) hz2, View.ld_unit_zero (S := S1024x1024) hz2, View.ld_unit_zero (S := S1x1024) hz2, View.ld_unit_zero (S := S2048x64) hz2, View.ld_unit_zero (S := S2048x128) hz2, View.ld_unit_zero (S := S2048x1024) hz2, View.readCov_unit_zero (S := S64x1024) _ hz2, View.readCov_unit_zero (S := S2048x64) _ hz2, View.readCov_unit_zero (S := S2048x128) _ hz2, View.readCov_unit_zero (S := S1024x64) _ hz2]
  exact View.canon_unit_zero (S := S2048x64) hz2 _ _

end

end Cert.PoolAttn

end
-- ==== Proof.Windows.lean ====
/-
  What each grid point is given: the rows of x of its batch entry and half, its batch entry's pool, and the weights and the
  bias whole. Each block is written here as a function of the arrays the kernel is launched with.
-/
module

public import proofs.«01_k».proof.Proof.Kept
public import Idealize.ShloMosaic.Lib.ValueLayout
public import proofs.«01_k».proof.Proof.Gen.KernelIdeal.Value

@[expose] public section

noncomputable section

namespace Cert.PoolAttn

open Cert.KernelIdeal Cert.KernelIdeal.Gen Idealize.ShloMosaic Idealize.ShloMosaic.TcCoe

/-- The rows of x that grid point `n` works on: half `n % 2` of batch entry `n / 2`. -/
def xBlk (x : Vec Ideal S4x2048x1024 .f32) (n : ℕ) : Vec Ideal S1x1024x1024 .f32 := fun y =>
  x (ValueIdx.ix3 (⟨n / 2 % 4, Nat.mod_lt _ (by decide)⟩ : Fin 4)
    (⟨n % 2 * 1024 + (y 1).val, by have : (y 1).val < 1024 := (y 1).isLt; omega⟩ : Fin 2048) (y 2))

/-- The pool of batch entry `n / 2`. -/
def poolBlk (p : Vec Ideal S4x2048x64 .f32) (n : ℕ) : Vec Ideal S1x2048x64 .f32 := fun y =>
  p (ValueIdx.ix3 (⟨n / 2 % 4, Nat.mod_lt _ (by decide)⟩ : Fin 4) (y 1) (y 2))

/-- The bias as one row. -/
def biasRow (b : Vec Ideal S1024 .f32) : Vec Ideal S1x1024 .f32 := fun y => b (ValueIdx.ix1 (y 1))

/-- Where the blocks of x and of the pool lie, by grid point. -/
theorem index_x : ∀ t : Fin cfg0.N, win0_0.index t (0 : Fin 3) = t.val / 2 % 4 ∧ win0_0.index t (1 : Fin 3) = t.val % 2
    ∧ win0_0.index t (2 : Fin 3) = 0 :=
  (by decide +kernel : ∀ t : Fin grid0.N, _)

theorem index_pool : ∀ t : Fin cfg0.N, win0_1.index t (0 : Fin 3) = t.val / 2 % 4 ∧ win0_1.index t (1 : Fin 3) = 0
    ∧ win0_1.index t (2 : Fin 3) = 0 :=
  (by decide +kernel : ∀ t : Fin grid0.N, _)

/-- The weights and the bias are read whole at every point. -/
theorem index_whole : ∀ (t : Fin cfg0.N) (a : Fin 2), win0_2.index t a = 0 ∧ win0_3.index t a = 0 ∧ win0_4.index t a = 0
    ∧ win0_5.index t a = 0 ∧ win0_6.index t a = 0 ∧ win0_7.index t a = 0 :=
  (by decide +kernel : ∀ (t : Fin grid0.N) (a : Fin 2), _)

variable (m : (ℓ : Loc nD τ sig) → Buf (Elt Ideal) ℓ) (c : Dev nD)

/-- Window 0 shows its point's rows of x. -/
theorem iblk_x (t : Fin cfg0.N) : iblk m c 0 t = xBlk (m ((c.tc : Thread nD τ).loc main_arg0)) t.val := by
  obtain ⟨e0, e1, e2⟩ := index_x t
  funext y
  refine (congrFun (V_main_arg0 m c) _).trans (congrArg (m ((c.tc : Thread nD τ).loc main_arg0)) ?_)
  have hy0 : (y 0).val < 1 := (y 0).isLt
  refine funext fun a => Fin.ext ?_
  match a with
  | ⟨0, _⟩ => show win0_0.index t (0 : Fin 3) * 1 + 1 * (y 0).val = t.val / 2 % 4; omega
  | ⟨1, _⟩ => show win0_0.index t (1 : Fin 3) * 1024 + 1 * (y 1).val = t.val % 2 * 1024 + (y 1).val; omega
  | ⟨2, _⟩ => show win0_0.index t (2 : Fin 3) * 1024 + 1 * (y 2).val = (y 2).val; omega

/-- Window 1 shows its batch entry's pool. -/
theorem iblk_pool (t : Fin cfg0.N) : iblk m c 1 t = poolBlk (m ((c.tc : Thread nD τ).loc main_arg1)) t.val := by
  obtain ⟨e0, e1, e2⟩ := index_pool t
  funext y
  refine (congrFun (V_main_arg1 m c) _).trans (congrArg (m ((c.tc : Thread nD τ).loc main_arg1)) ?_)
  have hy0 : (y 0).val < 1 := (y 0).isLt
  refine funext fun a => Fin.ext ?_
  match a with
  | ⟨0, _⟩ => show win0_1.index t (0 : Fin 3) * 1 + 1 * (y 0).val = t.val / 2 % 4; omega
  | ⟨1, _⟩ => show win0_1.index t (1 : Fin 3) * 2048 + 1 * (y 1).val = (y 1).val; omega
  | ⟨2, _⟩ => show win0_1.index t (2 : Fin 3) * 64 + 1 * (y 2).val = (y 2).val; omega

/-- Window 2 shows the query weights. -/
theorem iblk_wq (t : Fin cfg0.N) : iblk m c 2 t = m ((c.tc : Thread nD τ).loc main_arg3) := by
  have e := fun a => (index_whole t a).1
  funext y
  refine (congrFun (V_main_arg3 m c) _).trans (congrArg (m ((c.tc : Thread nD τ).loc main_arg3)) ?_)
  refine funext fun a => Fin.ext ?_
  match a with
  | ⟨0, _⟩ => show win0_2.index t (0 : Fin 2) * 64 + 1 * (y 0).val = (y 0).val; rw [e 0]; omega
  | ⟨1, _⟩ => show win0_2.index t (1 : Fin 2) * 1024 + 1 * (y 1).val = (y 1).val; rw [e 1]; omega

/-- Window 3 shows the key weights. -/
theorem iblk_wk (t : Fin cfg0.N) : iblk m c 3 t = m ((c.tc : Thread nD τ).loc main_arg4) := by
  have e := fun a => (index_whole t a).2.1
  funext y
  refine (congrFun (V_main_arg4 m c) _).trans (congrArg (m ((c.tc : Thread nD τ).loc main_arg4)) ?_)
  refine funext fun a => Fin.ext ?_
  match a with
  | ⟨0, _⟩ => show win0_3.index t (0 : Fin 2) * 64 + 1 * (y 0).val = (y 0).val; rw [e 0]; omega
  | ⟨1, _⟩ => show win0_3.index t (1 : Fin 2) * 64 + 1 * (y 1).val = (y 1).val; rw [e 1]; omega

/-- Window 4 shows the value weights. -/
theorem iblk_wv (t : Fin cfg0.N) : iblk m c 4 t = m ((c.tc : Thread nD τ).loc main_arg5) := by
  have e := fun a => (index_whole t a).2.2.1
  funext y
  refine (congrFun (V_main_arg5 m c) _).trans (congrArg (m ((c.tc : Thread nD τ).loc main_arg5)) ?_)
  refine funext fun a => Fin.ext ?_
  match a with
  | ⟨0, _⟩ => show win0_4.index t (0 : Fin 2) * 1024 + 1 * (y 0).val = (y 0).val; rw [e 0]; omega
  | ⟨1, _⟩ => show win0_4.index t (1 : Fin 2) * 64 + 1 * (y 1).val = (y 1).val; rw [e 1]; omega

/-- Window 5 shows the output weights. -/
theorem iblk_wout (t : Fin cfg0.N) : iblk m c 5 t = m ((c.tc : Thread nD τ).loc main_arg6) := by
  have e := fun a => (index_whole t a).2.2.2.1
  funext y
  refine (congrFun (V_main_arg6 m c) _).trans (congrArg (m ((c.tc : Thread nD τ).loc main_arg6)) ?_)
  refine funext fun a => Fin.ext ?_
  match a with
  | ⟨0, _⟩ => show win0_5.index t (0 : Fin 2) * 1024 + 1 * (y 0).val = (y 0).val; rw [e 0]; omega
  | ⟨1, _⟩ => show win0_5.index t (1 : Fin 2) * 2048 + 1 * (y 1).val = (y 1).val; rw [e 1]; omega

/-- Window 6 shows the gate weights. -/
theorem iblk_wgate (t : Fin cfg0.N) : iblk m c 6 t = m ((c.tc : Thread nD τ).loc main_arg7) := by
  have e := fun a => (index_whole t a).2.2.2.2.1
  funext y
  refine (congrFun (V_main_arg7 m c) _).trans (congrArg (m ((c.tc : Thread nD τ).loc main_arg7)) ?_)
  refine funext fun a => Fin.ext ?_
  match a with
  | ⟨0, _⟩ => show win0_6.index t (0 : Fin 2) * 1024 + 1 * (y 0).val = (y 0).val; rw [e 0]; omega
  | ⟨1, _⟩ => show win0_6.index t (1 : Fin 2) * 1024 + 1 * (y 1).val = (y 1).val; rw [e 1]; omega

/-- The array the bias is handed over in holds the bias as one row. -/
theorem V_bias : V m c main_v0 = biasRow (m ((c.tc : Thread nD τ).loc main_arg8)) := by
  have h : V m c main_v0 = fun i => shapeCast S1x1024 (m ((c.tc : Thread nD τ).loc main_arg8)) shapeCasts_S1024_S1x1024 i := by
    show StableHlo.after hostOps0 (fun b => m (c, b)) main_v0 = _
    unfold hostOps0
    rw [StableHlo.after_cons, StableHlo.after_nil, StableHlo.reshape_result]
    rfl
  rw [h]
  funext y
  have hy : y = ValueIdx.ix2 (0 : Fin 1) (y 1) := by
    refine funext fun a => Fin.ext ?_
    match a with
    | ⟨0, _⟩ => show (y 0).val = 0; have : (y 0).val < 1 := (y 0).isLt; omega
    | ⟨1, _⟩ => rfl
  rw [hy]
  exact ValueIdx.shapeCast_a_1a_apply _ shapeCasts_S1024_S1x1024 (0 : Fin 1) (y 1)

/-- Window 7 shows the bias as one row. -/
theorem iblk_bias (t : Fin cfg0.N) : iblk m c 7 t = biasRow (m ((c.tc : Thread nD τ).loc main_arg8)) := by
  have e := fun a => (index_whole t a).2.2.2.2.2
  funext y
  refine (congrFun (V_bias m c) _).trans (congrArg (biasRow (m ((c.tc : Thread nD τ).loc main_arg8))) ?_)
  refine funext fun a => Fin.ext ?_
  match a with
  | ⟨0, _⟩ => show win0_7.index t (0 : Fin 2) * 1 + 1 * (y 0).val = (y 0).val; rw [e 0]; omega
  | ⟨1, _⟩ => show win0_7.index t (1 : Fin 2) * 1024 + 1 * (y 1).val = (y 1).val; rw [e 1]; omega

end Cert.PoolAttn

end
-- ==== Proof.Sweep.lean ====
/-
  What the run leaves: after every grid point the kept arrays hold the same functions of the launched arrays (the pool's
  two changing with the batch entry), so the result's entry at (b, t, e) is `rowOut` of row t of batch entry b.
-/
module

public import proofs.«01_k».proof.Proof.Pieces
public import proofs.«01_k».proof.Proof.Windows

@[expose] public section

noncomputable section

namespace Cert.PoolAttn

open Cert.KernelIdeal Cert.KernelIdeal.Gen Cert.KernelIdeal.Value Idealize.ShloMosaic Idealize.ShloMosaic.TcCoe

variable (m : (ℓ : Loc nD τ sig) → Buf (Elt Ideal) ℓ) (c : Dev nD)

/-- The launched arrays, by name. -/
abbrev xA : Vec Ideal S4x2048x1024 .f32 := m ((c.tc : Thread nD τ).loc main_arg0)
abbrev poolA : Vec Ideal S4x2048x64 .f32 := m ((c.tc : Thread nD τ).loc main_arg1)
abbrev wqA : Vec Ideal S64x1024 .f32 := m ((c.tc : Thread nD τ).loc main_arg3)
abbrev wkA : Vec Ideal S64x64 .f32 := m ((c.tc : Thread nD τ).loc main_arg4)
abbrev wvA : Vec Ideal S1024x64 .f32 := m ((c.tc : Thread nD τ).loc main_arg5)
abbrev woutA : Vec Ideal S1024x2048 .f32 := m ((c.tc : Thread nD τ).loc main_arg6)
abbrev wgateA : Vec Ideal S1024x1024 .f32 := m ((c.tc : Thread nD τ).loc main_arg7)
abbrev bgateA : Vec Ideal S1024 .f32 := m ((c.tc : Thread nD τ).loc main_arg8)

/-- What the result block and the five kept arrays hold after grid point `n`. -/
def left (n : ℕ) : Vec Ideal S1x1024x1024 .f32 × Vec Ideal S2048x128 .bf16 × Vec Ideal S2048x64 .bf16
    × Vec Ideal S64x1024 .bf16 × Vec Ideal S2048x1024 .bf16 × Vec Ideal S1024x64 .bf16 :=
  (blockOut (xBlk (xA m c) n) (k0_pay2 (wqA m c)) (k0_pay8 (poolBlk (poolA m c) n) (wkA m c)) (k0_pay7 (poolBlk (poolA m c) n))
      (cat (woutA m c) (wgateA m c)) (k0_pay5 (ldRight (woutA m c)) (wvA m c)) (biasRow (bgateA m c)),
    k0_pay7 (poolBlk (poolA m c) n), k0_pay8 (poolBlk (poolA m c) n) (wkA m c), k0_pay2 (wqA m c),
    cat (woutA m c) (wgateA m c), k0_pay5 (ldRight (woutA m c)) (wvA m c))

/-- The first point leaves `left`, whatever was there. -/
theorem step_first (t : Fin cfg0.N) (acc) (h0 : t.val % 8 = 0) (h1 : t.val % 2 = 0) :
    stAt0 m c t.val t.isLt acc = left m c t.val := by
  rw [stAt0_A m c t acc h0 h1, out_A, scratch_A_0, scratch_A_1, scratch_A_2, scratch_A_3, scratch_A_4,
    iblk_x, iblk_pool, iblk_wq, iblk_wk, iblk_wv, iblk_wout, iblk_wgate, iblk_bias]
  rfl

/-- The first point of a later batch entry turns the arrays the points before it left into its own. -/
theorem step_entry (t : Fin cfg0.N) (n : ℕ) (h0 : ¬t.val % 8 = 0) (h1 : t.val % 2 = 0) :
    stAt0 m c t.val t.isLt (left m c n) = left m c t.val := by
  rw [stAt0_C m c t (left m c n) h0 h1, out_C, scratch_C_0, scratch_C_1,
    iblk_x, iblk_pool, iblk_wk, iblk_bias]
  rfl

/-- The second point of a batch entry finds that entry's arrays and leaves them. -/
theorem step_second (t : Fin cfg0.N) (n : ℕ) (hn : n / 2 = t.val / 2) (h0 : ¬t.val % 8 = 0) (h1 : ¬t.val % 2 = 0) :
    stAt0 m c t.val t.isLt (left m c n) = left m c t.val := by
  have hp : poolBlk (poolA m c) n = poolBlk (poolA m c) t.val := by unfold poolBlk; simp only [hn]
  rw [stAt0_B m c t (left m c n) h0 h1, out_B, iblk_x, iblk_bias]
  unfold left
  rw [hp]
  rfl

/-- After every point, `left`. -/
theorem sweep_eq : ∀ (n : ℕ) (hn : 0 + n < cfg0.N),
    Pipeline.accAt (fun n h => stAt0 m c n h junk0) (stAt0 m c) 0 n hn = left m c n
  | 0, hn => step_first m c ⟨0, hn⟩ junk0 rfl rfl
  | n + 1, hn => by
    have hN : 0 + (n + 1) < 8 := lt_of_lt_of_eq hn N_0
    rw [Pipeline.accAt_succ, sweep_eq n (Nat.lt_of_succ_lt hn)]
    have e : 0 + (n + 1) = n + 1 := Nat.zero_add _
    by_cases h1 : (0 + (n + 1)) % 2 = 0
    · exact (step_entry m c ⟨0 + (n + 1), hn⟩ n (by show ¬(0 + (n + 1)) % 8 = 0; omega) h1).trans (congrArg (left m c) e)
    · exact (step_second m c ⟨0 + (n + 1), hn⟩ n (by show n / 2 = (0 + (n + 1)) / 2; omega)
        (by show ¬(0 + (n + 1)) % 8 = 0; omega) h1).trans (congrArg (left m c) e)

/-- The kernel's result at (b, t, e), from row t of batch entry b. -/
theorem result_apply (i : S4x2048x1024.Idx) :
    G8 m c i = rowOut (fun d => xA m c (ValueIdx.ix3 (i 0) (i 1) d)) (k0_pay2 (wqA m c))
      (k0_pay8 (fun y => poolA m c (ValueIdx.ix3 (i 0) (y 1) (y 2))) (wkA m c))
      (k0_pay7 (fun y => poolA m c (ValueIdx.ix3 (i 0) (y 1) (y 2))))
      (cat (woutA m c) (wgateA m c)) (k0_pay5 (ldRight (woutA m c)) (wvA m c)) (biasRow (bgateA m c)) (i 2) := by
  have h0 : (i 0).val < 4 := (i 0).isLt
  have h1 : (i 1).val < 2048 := (i 1).isLt
  have h2 : (i 2).val < 1024 := (i 2).isLt
  have hp : pt8Of i = 2 * (i 0).val + (i 1).val / 1024 := by
    show 2 * ((i 0).val / 1 - 0) + 1 * ((i 1).val / 1024 - 0) + 1 * ((i 2).val / 1024 - 0) = _
    omega
  have hN : pt8Of i < cfg0.N := lt_of_lt_of_eq (by rw [hp]; omega : pt8Of i < 8) N_0.symm
  have hb : ∀ h, (⟨pt8Of i / 2 % 4, h⟩ : Fin 4) = i 0 := fun h => Fin.ext (by show pt8Of i / 2 % 4 = _; rw [hp]; omega)
  have hpool : poolBlk (poolA m c) (pt8Of i) = fun y => poolA m c (ValueIdx.ix3 (i 0) (y 1) (y 2)) := by
    unfold poolBlk; simp only [hb]
  have he : loc8Of i 2 = i 2 := Fin.ext (by show (i 2).val % 1024 = _; omega)
  have hrow : (fun d : Fin 1024 => xBlk (xA m c) (pt8Of i) (ValueIdx.ix3 (0 : Fin 1) (loc8Of i 1) d))
      = fun d => xA m c (ValueIdx.ix3 (i 0) (i 1) d) := by
    funext d
    refine congrArg (xA m c) (funext fun a => Fin.ext ?_)
    match a with
    | ⟨0, _⟩ => exact congrArg Fin.val (hb _)
    | ⟨1, _⟩ => show pt8Of i % 2 * 1024 + (i 1).val % 1024 = (i 1).val; rw [hp]; omega
    | ⟨2, _⟩ => rfl
  unfold G8
  rw [dif_pos hN, sweep_eq]
  show rowOut (fun d => xBlk (xA m c) (pt8Of i) (ValueIdx.ix3 (0 : Fin 1) (loc8Of i 1) d)) _ _ _ _ _ _ (loc8Of i 2) = _
  rw [hrow, hpool, he]

end Cert.PoolAttn

end
-- ==== Proof.Algebra.lean ====
/- The real-number mathematics of the claim, about no program: sums of real numbers read as extended reals, the power of
   two that is the exponential of the scaled score, and the retrieved vector computed in the two orders. -/
module

public import Idealize.ShloMosaic.PureOps.Ideal.Laws
public import Mathlib.Analysis.SpecialFunctions.Pow.Real

@[expose] public section

noncomputable section

namespace Cert.PoolAttn

open Idealize.ShloMosaic
open scoped BigOperators

/-- The sum of finitely many real numbers, read as an extended real, is the sum of their readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers, read as extended reals, is the reading of the real sum. -/
theorem sum_mul_coe {ι : Type*} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

/-- The quotient of two real numbers, the divisor not zero, is the reading of the real quotient. -/
theorem div_coe_coe (x : ℝ) {y : ℝ} (h : y ≠ 0) : Ideal.div (x : EReal) (y : EReal) = ((x / y : ℝ) : EReal) := by
  rw [Ideal.div_coe h, ← EReal.coe_mul, mul_one_div]

/-- Two to the power `a · ((1/8) / ln 2)` is `e` to the power `a / 8`. -/
theorem exp2_scaled (a : ℝ) :
    Ideal.exp2 ((a * ((1 / 8) * (Real.log 2)⁻¹) : ℝ) : EReal) = ((Real.exp (a * (1 / 8)) : ℝ) : EReal) := by
  rw [Ideal.exp2_coe]
  refine congrArg _ ?_
  show (2 : ℝ) ^ (a * ((1 / 8) * (Real.log 2)⁻¹)) = Real.exp (a * (1 / 8))
  rw [Real.rpow_def_of_pos two_pos]
  refine congrArg _ ?_
  have h : Real.log 2 ≠ 0 := (Real.log_pos one_lt_two).ne'
  field_simp

section Real

variable {P S D : Type*} [Fintype P] [Fintype S] [Fintype D]

/-- The constant multiplied into each query weight comes out of the score: with `wq` scaled by `c` the score of a pool
entry whose key is `k` is `c` times the unscaled score. -/
theorem score_scale (x : D → ℝ) (wq : S → D → ℝ) (k : S → ℝ) (c : ℝ) :
    ∑ s, (∑ d, x d * (wq s d * c)) * k s = (∑ s, (∑ d, x d * wq s d) * k s) * c := by
  rw [Finset.sum_mul]
  refine Finset.sum_congr rfl fun s _ => ?_
  rw [Finset.sum_mul, Finset.sum_mul, Finset.sum_mul]
  exact Finset.sum_congr rfl fun d _ => by ring

/-- THE TWO ORDERS. Weights `exp (a p)`, averaged over the pool and then sent through the product of the two matrices,
are the softmax weights (with any shift `M` subtracted) applied to the pool's values, sent through the second matrix. -/
theorem retrieve_eq (a : P → ℝ) (M : ℝ) (pool : P → S → ℝ) (wv : D → S → ℝ) (w2 : D → ℝ) :
    ∑ s, ((∑ p, Real.exp (a p) * pool p s) / (∑ p, Real.exp (a p))) * (∑ d, w2 d * wv d s)
      = ∑ d, (∑ p, (Real.exp (a p - M) / (∑ p', Real.exp (a p' - M))) * (∑ s, pool p s * wv d s)) * w2 d := by
  have hw : ∀ p, Real.exp (a p - M) / (∑ p', Real.exp (a p' - M)) = Real.exp (a p) / (∑ p', Real.exp (a p')) := by
    intro p
    simp only [Real.exp_sub]
    rw [← Finset.sum_div, div_div_div_cancel_right₀ (Real.exp_ne_zero M)]
  simp only [hw]
  generalize hZ : (∑ p', Real.exp (a p')) = Z
  have hl : ∀ s, ((∑ p, Real.exp (a p) * pool p s) / Z) * (∑ d, w2 d * wv d s)
      = ∑ d, ∑ p, Real.exp (a p) / Z * (pool p s * wv d s) * w2 d := by
    intro s
    rw [Finset.sum_div, Finset.mul_sum]
    refine Finset.sum_congr rfl fun d _ => ?_
    rw [Finset.sum_mul]
    exact Finset.sum_congr rfl fun p _ => by ring
  simp only [hl]
  rw [Finset.sum_comm]
  refine Finset.sum_congr rfl fun d _ => ?_
  rw [Finset.sum_comm, Finset.sum_mul]
  refine Finset.sum_congr rfl fun p _ => ?_
  rw [Finset.mul_sum, Finset.sum_mul]

end Real

/-- The scaled score of pool entry `p` against one row: the row's query times the entry's key, times an eighth. -/
def score (x : Fin 1024 → ℝ) (pool : Fin 2048 → Fin 64 → ℝ) (wq : Fin 64 → Fin 1024 → ℝ) (wk : Fin 64 → Fin 64 → ℝ)
    (p : Fin 2048) : ℝ :=
  (∑ s, (∑ d, x d * wq s d) * (∑ j, pool p j * wk s j)) * (1 / 8)

/-- What a row with scores `a` retrieves, sent through one row of the output weights' right half, in the kernel's order:
    the averaged pool entry times the product of the two matrices. -/
def kernelShare (a : Fin 2048 → ℝ) (pool : Fin 2048 → Fin 64 → ℝ) (wv : Fin 1024 → Fin 64 → ℝ) (w2 : Fin 1024 → ℝ) : ℝ :=
  ∑ s, ((∑ p, Real.exp (a p) * pool p s) / (∑ p, Real.exp (a p))) * (∑ d, w2 d * wv d s)

/-- The same in the reference's order: the softmax weights, any shift `M` subtracted from the scores, applied to the pool's
    values, sent through that row. -/
def softmaxShare (a : Fin 2048 → ℝ) (M : ℝ) (pool : Fin 2048 → Fin 64 → ℝ) (wv : Fin 1024 → Fin 64 → ℝ)
    (w2 : Fin 1024 → ℝ) : ℝ :=
  ∑ d, (∑ p, (Real.exp (a p - M) / (∑ p', Real.exp (a p' - M))) * (∑ s, pool p s * wv d s)) * w2 d

/-- The two orders give one number. -/
theorem kernelShare_eq_softmaxShare (a : Fin 2048 → ℝ) (M : ℝ) (pool : Fin 2048 → Fin 64 → ℝ)
    (wv : Fin 1024 → Fin 64 → ℝ) (w2 : Fin 1024 → ℝ) : kernelShare a pool wv w2 = softmaxShare a M pool wv w2 :=
  retrieve_eq a M pool wv w2

end Cert.PoolAttn

end
-- ==== Proof.KernelRow.lean ====
/-
  One entry of the kernel's result over real numbers: when the row of x, the pool, the query, key and value weights and
  the right half of the output weights' row are real, what the row retrieves is the real number `kernelShare`.
-/
module

public import proofs.«01_k».proof.Proof.Kept
public import proofs.«01_k».proof.Proof.Algebra

@[expose] public section

noncomputable section

namespace Cert.PoolAttn

open Cert.KernelIdeal Cert.KernelIdeal.Gen Idealize.ShloMosaic Idealize.ShloMosaic.ValueIdx
open scoped BigOperators

variable (x : Fin 1024 → ℝ) (pool : Fin 2048 → Fin 64 → ℝ) (wq : Fin 64 → Fin 1024 → ℝ) (wk : Fin 64 → Fin 64 → ℝ)
  (wv : Fin 1024 → Fin 64 → ℝ)

section

variable (X : Fin 1024 → EReal) (x1 : Vec Ideal S1x2048x64 .f32) (x2 : Vec Ideal S64x1024 .f32) (x3 : Vec Ideal S64x64 .f32)
  (hx : ∀ d, X d = (x d : EReal)) (hp : ∀ p s, x1 (ix3 0 p s) = (pool p s : EReal))
  (hq : ∀ s d, x2 (ix2 s d) = (wq s d : EReal)) (hk : ∀ s j, x3 (ix2 s j) = (wk s j : EReal))

include hx hp hq hk in
/-- The weight the row gives a pool entry is the exponential of its score. -/
theorem weight_real (p : Fin 2048) :
    weight X (k0_pay2 x2) (k0_pay8 x1 x3) p = ((Real.exp (score x pool wq wk p) : ℝ) : EReal) := by
  unfold weight score
  rw [← exp2_scaled, ← score_scale]
  refine congrArg Ideal.exp2 ?_
  rw [coe_sum]
  refine Finset.sum_congr rfl fun s _ => ?_
  rw [key_apply, EReal.coe_mul, coe_sum, coe_sum]
  refine congrArg₂ (· * ·) (Finset.sum_congr rfl fun d _ => ?_) (Finset.sum_congr rfl fun j _ => ?_)
  · rw [wq_apply, hx, hq, EReal.coe_mul (x d) (wq s d * scale), EReal.coe_mul (wq s d) scale]
  · rw [hp, hk, EReal.coe_mul]

include hx hp hq hk in
/-- What the row retrieves: the pool's column averaged with the exponential weights. -/
theorem retrieved_real (s : Fin 64) :
    retrieved X (k0_pay2 x2) (k0_pay8 x1 x3) (k0_pay7 x1) s
      = (((∑ p, Real.exp (score x pool wq wk p) * pool p s) / (∑ p, Real.exp (score x pool wq wk p)) : ℝ) : EReal) := by
  unfold retrieved
  have h0 : (∑ p, Real.exp (score x pool wq wk p)) ≠ 0 :=
    (Finset.sum_pos (fun p _ => Real.exp_pos _) Finset.univ_nonempty).ne'
  rw [← div_coe_coe _ h0, coe_sum, coe_sum, pay7_eq]
  refine congrArg₂ Ideal.div (Finset.sum_congr rfl fun p _ => ?_) (Finset.sum_congr rfl fun p _ => ?_)
  · rw [weight_real x pool wq wk X x1 x2 x3 hx hp hq hk, pad_pool, hp, EReal.coe_mul]
  · rw [weight_real x pool wq wk X x1 x2 x3 hx hp hq hk, pad_one, mul_one]

include hx hp hq hk in
/-- Entry `e` of the row's result: of the gate, the bias and the output weights' left half nothing is asked. -/
theorem rowOut_real (x4 : Vec Ideal S1024x64 .f32) (x5 : Vec Ideal S1024x2048 .f32) (x6 : Vec Ideal S1024x1024 .f32)
    (b : Vec Ideal S1x1024 .f32) (e : Fin 1024) (w2 : Fin 1024 → ℝ) (hv : ∀ d s, x4 (ix2 d s) = (wv d s : EReal))
    (h2 : ∀ d : Fin 1024, x5 (ix2 e (⟨1024 + d.val, by omega⟩ : Fin 2048)) = (w2 d : EReal)) :
    rowOut X (k0_pay2 x2) (k0_pay8 x1 x3) (k0_pay7 x1) (cat x5 x6) (k0_pay5 (ldRight x5) x4) b e
      = X e + Ideal.logistic ((∑ d, X d * x6 (ix2 e d)) + b (ix2 0 e))
        * ((∑ d : Fin 1024, X d * x5 (ix2 e (⟨d.val, by omega⟩ : Fin 2048)))
          + ((kernelShare (score x pool wq wk) pool wv w2 : ℝ) : EReal)) := by
  unfold rowOut kernelShare
  refine congrArg₂ (· + ·) rfl (congrArg₂ (· * ·) ?_ (congrArg₂ (· + ·) ?_ ?_))
  · exact congrArg (fun z => Ideal.logistic (z + b (ix2 0 e))) (Finset.sum_congr rfl fun d _ => by rw [cat_lower])
  · exact Finset.sum_congr rfl fun d _ => by rw [cat_upper]
  · rw [coe_sum]
    refine Finset.sum_congr rfl fun s _ => ?_
    rw [retrieved_real x pool wq wk X x1 x2 x3 hx hp hq hk, mm_apply, EReal.coe_mul]
    refine congrArg _ ?_
    rw [coe_sum]
    exact Finset.sum_congr rfl fun d _ => by rw [h2, hv, EReal.coe_mul]

end

end Cert.PoolAttn

end
-- ==== Proof.RefScore.lean ====
/-
  The reference's softmax over real numbers: with every pool entry valid and real x, pool, query and key weights, its
  scores are the real scores, its row maximum is some real number, and its weights are the real softmax, which the
  replacement of NaN leaves alone.
-/
module

public import proofs.«01_k».proof.Proof.Algebra
public import proofs.«01_k».proof.Proof.Gen.ReferenceIdeal.Read

@[expose] public section

noncomputable section

namespace Cert.PoolAttn.Ref

open Cert.ReferenceIdeal Cert.ReferenceIdeal.Gen Cert.ReferenceIdeal.Read Idealize.ShloMosaic Idealize.ShloMosaic.ValueIdx
open scoped BigOperators

/-- An index of three axes is the one its coordinates name. -/
theorem idx3 {n0 n1 n2 : ℕ} (i : (⟨3, ![n0, n1, n2]⟩ : Shape).Idx) (b : Fin n0) (t : Fin n1) (p : Fin n2)
    (h0 : (i 0).val = b.val) (h1 : (i 1).val = t.val) (h2 : (i 2).val = p.val) : i = ix3 b t p := by
  refine funext fun a => Fin.ext ?_
  match a with
  | ⟨0, _⟩ => exact h0
  | ⟨1, _⟩ => exact h1
  | ⟨2, _⟩ => exact h2

/-- An index of two axes is the one its coordinates name. -/
theorem idx2 {n0 n1 : ℕ} (i : (⟨2, ![n0, n1]⟩ : Shape).Idx) (b : Fin n0) (t : Fin n1)
    (h0 : (i 0).val = b.val) (h1 : (i 1).val = t.val) : i = ix2 b t := by
  refine funext fun a => Fin.ext ?_
  match a with
  | ⟨0, _⟩ => exact h0
  | ⟨1, _⟩ => exact h1

/-- The literal 0.125. -/
theorem eighth : Ideal.ofBits .f32 0x3E000000#32 = ((1 / 8 : ℝ) : EReal) := by
  simp [Ideal.ofBits, Ideal.ieee]; rw [← EReal.coe_mul]; norm_num

/-- The literals of the two infinities. -/
theorem literal_top : Ideal.ofBits .f32 0x7F800000#32 = ⊤ := by simp [Ideal.ofBits, Ideal.ieee]
theorem literal_bot : Ideal.ofBits .f32 0xFF800000#32 = ⊥ := by simp [Ideal.ofBits, Ideal.ieee]

variable (x0 : S4x2048x1024.Idx → EReal) (x1 : S4x2048x64.Idx → EReal) (x2 : S4x2048.Idx → BitVec 1)
  (x3 : S64x1024.Idx → EReal) (x4 : S64x64.Idx → EReal) (xr : S4x2048x1024.Idx → ℝ) (pr : S4x2048x64.Idx → ℝ)
  (qr : S64x1024.Idx → ℝ) (kr : S64x64.Idx → ℝ)

/-- The score of pool entry `p` for row `t` of batch entry `b`. -/
def rowScore (b : Fin 4) (t p : Fin 2048) : ℝ :=
  score (fun d => xr (ix3 b t d)) (fun p s => pr (ix3 b p s)) (fun s d => qr (ix2 s d)) (fun s j => kr (ix2 s j)) p

section

variable (hx : ∀ i, x0 i = (xr i : EReal)) (hp : ∀ i, x1 i = (pr i : EReal)) (hm : ∀ i, x2 i = 1#1)
  (hq : ∀ i, x3 i = (qr i : EReal)) (hk : ∀ i, x4 i = (kr i : EReal))

include hx hp hm hq hk

/-- The masked scores are the real scores. -/
theorem masked_real (b : Fin 4) (t p : Fin 2048) :
    val_main_v7 (F := Ideal) x0 x1 x2 x3 x4 (ix3 b t p) = ((rowScore xr pr qr kr b t p : ℝ) : EReal) := by
  rw [val_main_v7_apply, val_main_call0_v1_apply, val_main_v6_apply, hm]
  refine (if_pos rfl).trans ?_
  rw [val_main_v5_apply, val_main_v3_apply, val_main_v4_apply, val_main_cst_apply]
  unfold rowScore score
  rw [EReal.coe_mul, coe_sum]
  refine congrArg₂ (· * ·) (Finset.sum_congr rfl fun s _ => ?_) eighth
  rw [val_main_v0_apply, val_main_v1_apply, EReal.coe_mul, coe_sum, coe_sum]
  refine congrArg₂ (· * ·) (Finset.sum_congr rfl fun d _ => ?_) (Finset.sum_congr rfl fun j _ => ?_)
  · rw [hx, hq, EReal.coe_mul, idx3 (lidx_main_v0 (lidx_main_v3 (ix3 b t p) s) d) b t d rfl rfl rfl,
      idx2 (ridx_main_v0 (lidx_main_v3 (ix3 b t p) s) d) s d rfl rfl]
  · rw [hp, hk, EReal.coe_mul, idx3 (lidx_main_v1 (ridx_main_v3 (ix3 b t p) s) j) b p j rfl rfl rfl,
      idx2 (ridx_main_v1 (ridx_main_v3 (ix3 b t p) s) j) s j rfl rfl]

/-- The maximum of a row of scores is a real number. -/
theorem rowMax_real (b : Fin 4) (t : Fin 2048) :
    ∃ M : ℝ, val_main_v10 (F := Ideal) x0 x1 x2 x3 x4 (ix2 b t) = (M : EReal) := by
  have h8 : ∃ M : ℝ, val_main_v8 (F := Ideal) x0 x1 x2 x3 x4 (ix2 b t) = (M : EReal) := by
    have hr : ∀ i, val_main_v7 (F := Ideal) x0 x1 x2 x3 x4 i = ((rowScore xr pr qr kr (i 0) (i 1) (i 2) : ℝ) : EReal) :=
      fun i => (congrArg _ (idx3 i (i 0) (i 1) (i 2) rfl rfl rfl)).trans
        (masked_real x0 x1 x2 x3 x4 xr pr qr kr hx hp hm hq hk (i 0) (i 1) (i 2))
    unfold val_main_v8
    rw [Host.reduce_eq_fold, val_main_cst_1_apply]
    generalize hS : (Finset.univ.filter fun i => reducesTo_S4x2048x2048_S4x2048_d2.drop i = ix2 b t) = S
    have hmem : ix3 b t (0 : Fin 2048) ∈ S := by
      rw [← hS]
      exact Finset.mem_filter.mpr ⟨Finset.mem_univ _, idx2 _ b t
        (Shape.ReducesTo.drop_apply_val_of_eq reducesTo_S4x2048x2048_S4x2048_d2 (ix3 b t (0 : Fin 2048)) 0 0)
        (Shape.ReducesTo.drop_apply_val_of_eq reducesTo_S4x2048x2048_S4x2048_d2 (ix3 b t (0 : Fin 2048)) 1 1)⟩
    have hlo : (⊥ : EReal) < S.fold max (Ideal.ofBits .f32 0xFF800000#32) (val_main_v7 (F := Ideal) x0 x1 x2 x3 x4) :=
      (Finset.lt_fold_max _).mpr (Or.inr ⟨_, hmem, by rw [hr]; exact EReal.bot_lt_coe _⟩)
    have hhi : S.fold max (Ideal.ofBits .f32 0xFF800000#32) (val_main_v7 (F := Ideal) x0 x1 x2 x3 x4) < (⊤ : EReal) :=
      (Finset.fold_max_lt _).mpr ⟨by rw [literal_bot]; exact bot_lt_top, fun i _ => by rw [hr]; exact EReal.coe_lt_top _⟩
    exact ⟨_, (EReal.coe_toReal hhi.ne hlo.ne').symm⟩
  obtain ⟨M, hM⟩ := h8
  refine ⟨M, ?_⟩
  rw [val_main_v10_apply, hM, val_main_v9_apply, val_main_cst_2_apply]
  show max (Ideal.ofBits .f32 0xFF800000#32) (M : EReal) = M
  rw [literal_bot]
  exact max_eq_right bot_le

/-- The weights, NaN replaced, are the real softmax of the row's scores, shifted by one real number per row. -/
theorem softmax_real (b : Fin 4) (t : Fin 2048) : ∃ M : ℝ, ∀ p : Fin 2048,
    val_main_v19 (F := Ideal) x0 x1 x2 x3 x4 (ix3 b t p)
      = ((Real.exp (rowScore xr pr qr kr b t p - M) / (∑ p', Real.exp (rowScore xr pr qr kr b t p' - M)) : ℝ) : EReal) := by
  obtain ⟨M, hM⟩ := rowMax_real x0 x1 x2 x3 x4 xr pr qr kr hx hp hm hq hk b t
  refine ⟨M, fun p => ?_⟩
  have h14 : ∀ p : Fin 2048, val_main_v14 (F := Ideal) x0 x1 x2 x3 x4 (ix3 b t p)
      = ((Real.exp (rowScore xr pr qr kr b t p - M) : ℝ) : EReal) := by
    intro p
    rw [val_main_v14_apply, val_main_v13_apply, masked_real x0 x1 x2 x3 x4 xr pr qr kr hx hp hm hq hk,
      val_main_v12_apply, val_main_v11_apply, idx2 (idx_main_v11 (idx_main_v12 (ix3 b t p))) b t rfl rfl, hM]
    show Ideal.exp ((rowScore xr pr qr kr b t p : EReal) - (M : EReal)) = _
    rw [← EReal.coe_sub, Ideal.exp_coe]
  have h0 : (∑ p', Real.exp (rowScore xr pr qr kr b t p' - M)) ≠ 0 :=
    (Finset.sum_pos (fun p _ => Real.exp_pos _) Finset.univ_nonempty).ne'
  have h18 : val_main_v18 (F := Ideal) x0 x1 x2 x3 x4 (ix3 b t p)
      = ((Real.exp (rowScore xr pr qr kr b t p - M) / (∑ p', Real.exp (rowScore xr pr qr kr b t p' - M)) : ℝ) : EReal) := by
    rw [val_main_v18_apply, h14, val_main_v17_apply, val_main_v16_apply, val_main_v15_apply, val_main_cst_3_apply,
      ← div_coe_coe _ h0, coe_sum]
    refine congrArg (Ideal.div _) ?_
    show Ideal.ofBits .f32 0x00000000#32 + _ = _
    rw [Ideal.ofBits_zero_f32, zero_add]
    exact Finset.sum_congr rfl fun p' _ => by rw [idx3 (idx_main_v15 (idx_main_v16 (idx_main_v17 (ix3 b t p))) p') b t p' rfl rfl rfl, h14]
  generalize Real.exp (rowScore xr pr qr kr b t p - M) / (∑ p', Real.exp (rowScore xr pr qr kr b t p' - M)) = w at h18 ⊢
  have h2 : val_main_call1_v2 (F := Ideal) x0 x1 x2 x3 x4 (ix3 b t p) = (w : EReal) := by
    rw [val_main_call1_v2_apply, val_main_call1_v0_apply, h18]
    exact if_neg (by show ¬Ideal.cmp .une (w : EReal) (w : EReal) = 1#1; simp [Ideal.cmp])
  have h5 : val_main_call1_v5 (F := Ideal) x0 x1 x2 x3 x4 (ix3 b t p) = (w : EReal) := by
    rw [val_main_call1_v5_apply, val_main_call1_v4_apply, h2, val_main_call1_v3_apply, val_main_call1_cst_apply]
    exact if_neg (by show ¬Ideal.cmp .oeq (w : EReal) (Ideal.ofBits .f32 0x7F800000#32) = 1#1; simp [Ideal.cmp, literal_top])
  rw [val_main_v19_apply, val_main_call1_v7_apply, h5, val_main_call1_v6_apply, val_main_call1_cst_1_apply]
  exact if_neg (by show ¬Ideal.cmp .oeq (w : EReal) (Ideal.ofBits .f32 0xFF800000#32) = 1#1; simp [Ideal.cmp, literal_bot])

end

end Cert.PoolAttn.Ref

end
-- ==== Proof.RefValue.lean ====
/-
  One entry of the reference's result: the entry of x plus the gate times the output product, the latter split into the
  half that meets x and the half that meets what the softmax retrieves, which is the real number `softmaxShare`.
-/
module

public import proofs.«01_k».proof.Proof.RefScore

@[expose] public section

noncomputable section

namespace Cert.PoolAttn.Ref

open Cert.ReferenceIdeal Cert.ReferenceIdeal.Gen Cert.ReferenceIdeal.Read Idealize.ShloMosaic Idealize.ShloMosaic.ValueIdx
open scoped BigOperators

variable (x0 : S4x2048x1024.Idx → EReal) (x1 : S4x2048x64.Idx → EReal) (x2 : S4x2048.Idx → BitVec 1)
  (x3 : S64x1024.Idx → EReal) (x4 : S64x64.Idx → EReal) (x5 : S1024x64.Idx → EReal) (x6 : S1024x2048.Idx → EReal)
  (x7 : S1024x1024.Idx → EReal) (x8 : S1024.Idx → EReal)

/-- The literal 1. -/
theorem literal_one : Ideal.ofBits .f32 0x3F800000#32 = 1 := by
  simp [Ideal.ofBits, Ideal.ieee]; rw [← EReal.coe_mul]; norm_num

/-- The gate at one entry. -/
theorem gate_apply (b : Fin 4) (t : Fin 2048) (e : Fin 1024) :
    val_main_v31 (F := Ideal) x0 x7 x8 (ix3 b t e)
      = Ideal.logistic ((∑ d, x0 (ix3 b t d) * x7 (ix2 e d)) + x8 (ix1 e)) := by
  have hz : val_main_v25 (F := Ideal) x0 x7 x8 (ix3 b t e) = (∑ d, x0 (ix3 b t d) * x7 (ix2 e d)) + x8 (ix1 e) := by
    rw [val_main_v25_apply, val_main_v22_apply, val_main_v24_apply, val_main_v23_apply]
    refine congrArg₂ (· + ·) (Finset.sum_congr rfl fun d _ => ?_) (congrArg x8 ?_)
    · rw [idx3 (lidx_main_v22 (ix3 b t e) d) b t d rfl rfl rfl, idx2 (ridx_main_v22 (ix3 b t e) d) e d rfl rfl]
    · exact funext fun a => match a with | ⟨0, _⟩ => rfl
  rw [val_main_v31_apply, val_main_v30_apply, val_main_cst_6_apply, val_main_v29_apply, val_main_v28_apply,
    val_main_cst_5_apply, val_main_v27_apply, val_main_v26_apply, hz]
  show Ideal.div (Ideal.ofBits .f32 0x3F800000#32) (Ideal.ofBits .f32 0x3F800000#32 + Ideal.exp (-_)) = _
  rw [literal_one]
  rfl

/-- The joined array holds x in its left half. -/
theorem joined_left (b : Fin 4) (t : Fin 2048) (d : Fin 1024) :
    val_main_v21 (F := Ideal) x0 x1 x2 x3 x4 x5 (ix3 b t (⟨d.val, by omega⟩ : Fin 2048)) = x0 (ix3 b t d) := by
  unfold val_main_v21
  generalize val_main_v20 (F := Ideal) x0 x1 x2 x3 x4 x5 = y
  refine concatenate_apply_piece (t := S4x2048x2048) 2 _ _ _ 0 (by simp) S4x2048x1024 _ rfl rfl 0 rfl (ix3 b t d)
    (fun a ha => ?_) ?_
  · match a with
    | ⟨0, _⟩ => rfl
    | ⟨1, _⟩ => rfl
    | ⟨2, _⟩ => exact absurd rfl ha
  · exact Nat.zero_add _

/-- The joined array holds what the softmax retrieves in its right half. -/
theorem joined_right (b : Fin 4) (t : Fin 2048) (d : Fin 1024) :
    val_main_v21 (F := Ideal) x0 x1 x2 x3 x4 x5 (ix3 b t (⟨1024 + d.val, by omega⟩ : Fin 2048))
      = val_main_v20 (F := Ideal) x0 x1 x2 x3 x4 x5 (ix3 b t d) := by
  unfold val_main_v21
  generalize val_main_v20 (F := Ideal) x0 x1 x2 x3 x4 x5 = y
  refine concatenate_apply_piece (t := S4x2048x2048) 2 _ _ _ 1 (by simp) S4x2048x1024 _ rfl rfl 1024 rfl (ix3 b t d)
    (fun a ha => ?_) rfl
  match a with
  | ⟨0, _⟩ => rfl
  | ⟨1, _⟩ => rfl
  | ⟨2, _⟩ => exact absurd rfl ha

/-- The output product splits into its two halves. -/
theorem output_apply (b : Fin 4) (t : Fin 2048) (e : Fin 1024) :
    val_main_v32 (F := Ideal) x0 x1 x2 x3 x4 x5 x6 (ix3 b t e)
      = (∑ d : Fin 1024, x0 (ix3 b t d) * x6 (ix2 e (⟨d.val, by omega⟩ : Fin 2048)))
        + ∑ d : Fin 1024, val_main_v20 (F := Ideal) x0 x1 x2 x3 x4 x5 (ix3 b t d)
            * x6 (ix2 e (⟨1024 + d.val, by omega⟩ : Fin 2048)) := by
  rw [val_main_v32_apply]
  refine (Fin.sum_univ_add (a := 1024) (b := 1024) _).trans
    (congrArg₂ (· + ·) (Finset.sum_congr rfl fun d _ => ?_) (Finset.sum_congr rfl fun d _ => ?_))
  · rw [idx3 (lidx_main_v32 (ix3 b t e) (Fin.castAdd 1024 d)) b t (⟨d.val, by omega⟩ : Fin 2048) rfl rfl rfl, joined_left,
      idx2 (ridx_main_v32 (ix3 b t e) (Fin.castAdd 1024 d)) e (⟨d.val, by omega⟩ : Fin 2048) rfl rfl]
  · rw [idx3 (lidx_main_v32 (ix3 b t e) (Fin.natAdd 1024 d)) b t (⟨1024 + d.val, by omega⟩ : Fin 2048) rfl rfl rfl,
      joined_right, idx2 (ridx_main_v32 (ix3 b t e) (Fin.natAdd 1024 d)) e (⟨1024 + d.val, by omega⟩ : Fin 2048) rfl rfl]

variable (xr : S4x2048x1024.Idx → ℝ) (pr : S4x2048x64.Idx → ℝ) (qr : S64x1024.Idx → ℝ) (kr : S64x64.Idx → ℝ)
  (vr : S1024x64.Idx → ℝ)

section

variable (hx : ∀ i, x0 i = (xr i : EReal)) (hp : ∀ i, x1 i = (pr i : EReal)) (hm : ∀ i, x2 i = 1#1)
  (hq : ∀ i, x3 i = (qr i : EReal)) (hk : ∀ i, x4 i = (kr i : EReal)) (hv : ∀ i, x5 i = (vr i : EReal))

include hx hp hm hq hk hv

/-- What the softmax retrieves: its weights averaging the pool's values, for some real shift of the row's scores. -/
theorem retrieved_apply (b : Fin 4) (t : Fin 2048) : ∃ M : ℝ, ∀ d : Fin 1024,
    val_main_v20 (F := Ideal) x0 x1 x2 x3 x4 x5 (ix3 b t d)
      = ((∑ p, (Real.exp (rowScore xr pr qr kr b t p - M) / (∑ p', Real.exp (rowScore xr pr qr kr b t p' - M)))
          * (∑ s, pr (ix3 b p s) * vr (ix2 d s)) : ℝ) : EReal) := by
  obtain ⟨M, hM⟩ := softmax_real x0 x1 x2 x3 x4 xr pr qr kr hx hp hm hq hk b t
  refine ⟨M, fun d => ?_⟩
  rw [val_main_v20_apply, coe_sum]
  refine Finset.sum_congr rfl fun p _ => ?_
  rw [EReal.coe_mul]
  refine congrArg₂ (· * ·) ?_ ?_
  · rw [idx3 (lidx_main_v20 (ix3 b t d) p) b t p rfl rfl rfl, hM]
  · rw [val_main_v2_apply, coe_sum]
    refine Finset.sum_congr rfl fun s _ => ?_
    rw [hp, hv, EReal.coe_mul, idx3 (lidx_main_v2 (ridx_main_v20 (ix3 b t d) p) s) b p s rfl rfl rfl,
      idx2 (ridx_main_v2 (ridx_main_v20 (ix3 b t d) p) s) d s rfl rfl]

/-- One entry of the reference's result, for some real shift of the row's scores. -/
theorem ref_apply (b : Fin 4) (t : Fin 2048) (e : Fin 1024) (w2 : Fin 1024 → ℝ)
    (h2 : ∀ d : Fin 1024, x6 (ix2 e (⟨1024 + d.val, by omega⟩ : Fin 2048)) = (w2 d : EReal)) :
    ∃ M : ℝ, val_main_v34 (F := Ideal) x0 x1 x2 x3 x4 x5 x6 x7 x8 (ix3 b t e)
      = x0 (ix3 b t e) + Ideal.logistic ((∑ d, x0 (ix3 b t d) * x7 (ix2 e d)) + x8 (ix1 e))
        * ((∑ d : Fin 1024, x0 (ix3 b t d) * x6 (ix2 e (⟨d.val, by omega⟩ : Fin 2048)))
          + ((softmaxShare (rowScore xr pr qr kr b t) M (fun p s => pr (ix3 b p s)) (fun d s => vr (ix2 d s)) w2 : ℝ)
              : EReal)) := by
  obtain ⟨M, hM⟩ := retrieved_apply x0 x1 x2 x3 x4 x5 xr pr qr kr vr hx hp hm hq hk hv b t
  refine ⟨M, ?_⟩
  rw [val_main_v34_apply, val_main_v33_apply, gate_apply, output_apply]
  refine congrArg₂ (· + ·) rfl (congrArg₂ (· * ·) rfl (congrArg₂ (· + ·) rfl ?_))
  unfold softmaxShare
  rw [coe_sum]
  refine Finset.sum_congr rfl fun d _ => ?_
  rw [h2, hM, EReal.coe_mul]

end

end Cert.PoolAttn.Ref

end
-- ==== Proof.Finite.lean ====
/-
  What the precondition says of the arguments, entry by entry: the mask is all ones, and the arrays it tests (of the
  output weights the right half) hold real numbers.
-/
module

public import proofs.«01_k».proof.Pre_mask_set_inputs_finite
public import proofs.«01_k».proof.Proof.RefScore

@[expose] public section

noncomputable section

namespace Cert.PoolAttn

open Cert.Pre_mask_set_inputs_finite Idealize.ShloMosaic Idealize.ShloMosaic.ValueIdx

/-- The shape relations the precondition's operations take. -/
theorem preFacts : Cert.Pre_mask_set_inputs_finite.Facts where
  bcast_S_S4x2048x1024 := by decide
  bcast_S_S4x2048x64 := by decide
  bcast_S_S64x1024 := by decide
  bcast_S_S64x64 := by decide
  bcast_S_S1024x64 := by decide
  slices_S1024x2048_S1024x1024_0_1024 := by decide
  bcast_S_S1024x1024 := by decide

/-- A value whose absolute value is below the literal infinity is a real number. -/
theorem real_of_abs_lt (x : EReal) (h : Ideal.cmp .olt (max x (-x)) (Ideal.ofBits .f32 0x7F800000#32) = 1#1) :
    x = (x.toReal : EReal) := by
  rw [Ref.literal_top] at h
  induction x using EReal.rec with
  | bot => simp [Ideal.cmp] at h
  | coe r => simp
  | top => simp [Ideal.cmp] at h

/-- An array whose entries all pass the test "absolute value below infinity" holds real numbers. -/
theorem real_of_test {S : Shape} (hb : S_.BroadcastsInDim S (![] : Fin 0 → Fin S.rank)) (a : FVec Ideal S .f32)
    (h : cmpf .olt (Host.absf a) (broadcastInDim S ![] hb (constant S_ .f32 0x7F800000#32)) = fun _ => 1#1)
    (i : S.Idx) : a i = ((a i).toReal : EReal) :=
  real_of_abs_lt (a i) (congrFun h i)

variable (x0 : FVec Ideal S4x2048x1024 .f32) (x1 : FVec Ideal S4x2048x64 .f32) (x2 : IVec S4x2048 1)
  (x3 : FVec Ideal S64x1024 .f32) (x4 : FVec Ideal S64x64 .f32) (x5 : FVec Ideal S1024x64 .f32)
  (x6 : FVec Ideal S1024x2048 .f32) (x7 : FVec Ideal S1024x1024 .f32) (x8 : FVec Ideal S1024 .f32)

/-- What the value claim asks of the arguments: a mask of ones, and real entries where the softmax and the
    re-associated product need them. -/
structure Usable : Prop where
  x : ∀ i, x0 i = ((x0 i).toReal : EReal)
  pool : ∀ i, x1 i = ((x1 i).toReal : EReal)
  mask : ∀ i, x2 i = 1#1
  wq : ∀ i, x3 i = ((x3 i).toReal : EReal)
  wk : ∀ i, x4 i = ((x4 i).toReal : EReal)
  wv : ∀ i, x5 i = ((x5 i).toReal : EReal)
  wout : ∀ e d : Fin 1024, x6 (ix2 e (⟨1024 + d.val, by omega⟩ : Fin 2048))
    = ((x6 (ix2 e (⟨1024 + d.val, by omega⟩ : Fin 2048))).toReal : EReal)

/-- The precondition, all seven of its tests ones, gives usable arguments. -/
theorem usable_of_pre [Cert.Pre_mask_set_inputs_finite.Facts]
    (h : (fn (F := Ideal) x0 x1 x2 x3 x4 x5 x6 x7 x8).1 = (fun _ => 1#1)
      ∧ (fn (F := Ideal) x0 x1 x2 x3 x4 x5 x6 x7 x8).2.1 = (fun _ => 1#1)
      ∧ (fn (F := Ideal) x0 x1 x2 x3 x4 x5 x6 x7 x8).2.2.1 = (fun _ => 1#1)
      ∧ (fn (F := Ideal) x0 x1 x2 x3 x4 x5 x6 x7 x8).2.2.2.1 = (fun _ => 1#1)
      ∧ (fn (F := Ideal) x0 x1 x2 x3 x4 x5 x6 x7 x8).2.2.2.2.1 = (fun _ => 1#1)
      ∧ (fn (F := Ideal) x0 x1 x2 x3 x4 x5 x6 x7 x8).2.2.2.2.2.1 = (fun _ => 1#1)
      ∧ (fn (F := Ideal) x0 x1 x2 x3 x4 x5 x6 x7 x8).2.2.2.2.2.2 = (fun _ => 1#1)) :
    Usable x0 x1 x2 x3 x4 x5 x6 := by
  obtain ⟨hm, hx, hp, hq, hk, hv, hw⟩ := h
  refine ⟨real_of_test Facts.bcast_S_S4x2048x1024 x0 hx, real_of_test Facts.bcast_S_S4x2048x64 x1 hp, congrFun hm,
    real_of_test Facts.bcast_S_S64x1024 x3 hq, real_of_test Facts.bcast_S_S64x64 x4 hk,
    real_of_test Facts.bcast_S_S1024x64 x5 hv, fun e d => ?_⟩
  have hs : ∀ i, extractStridedSlice S1024x1024 ![0, 1024] x6 Facts.slices_S1024x2048_S1024x1024_0_1024 i = _ :=
    real_of_test Facts.bcast_S_S1024x1024 _ hw
  specialize hs (ix2 e d)
  rwa [extractStridedSlice_apply ![0, 1024] x6 Facts.slices_S1024x2048_S1024x1024_0_1024 (ix2 e d)
    (ix2 e (⟨1024 + d.val, by omega⟩ : Fin 2048)) (fun a => match a with
      | ⟨0, _⟩ => (Nat.zero_add _).symm
      | ⟨1, _⟩ => rfl)] at hs

end Cert.PoolAttn

end
-- ==== Proof.Equation.lean ====
/-
  The equation: on usable arguments the array the kernel leaves and the array the reference leaves are the same, entry by
  entry. Both entries are the entry of x plus the gate times the output product; the two products differ only in the share
  that is retrieved from the pool, and there `kernelShare` is `softmaxShare`.
-/
module

public import proofs.«01_k».proof.Proof.Sweep
public import proofs.«01_k».proof.Proof.KernelRow
public import proofs.«01_k».proof.Proof.RefValue
public import proofs.«01_k».proof.Proof.Finite

@[expose] public section

noncomputable section

namespace Cert.PoolAttn

open Cert.KernelIdeal Cert.KernelIdeal.Gen Cert.KernelIdeal.Value Idealize.ShloMosaic Idealize.ShloMosaic.TcCoe
open scoped BigOperators

variable (m : (ℓ : Loc nD τ sig) → Buf (Elt Ideal) ℓ) (c : Dev nD)

/-- The launched mask, which the kernel does not read. -/
abbrev maskA : IVec S4x2048 1 := m ((c.tc : Thread nD τ).loc main_arg2)

/-- On usable arguments one entry of the kernel's result is the reference's. -/
theorem entry_eq (h : Usable (xA m c) (poolA m c) (maskA m c) (wqA m c) (wkA m c) (wvA m c) (woutA m c))
    (b : Fin 4) (t : Fin 2048) (e : Fin 1024) :
    Cert.ReferenceIdeal.Read.val_main_v34 (F := Ideal) (xA m c) (poolA m c) (maskA m c) (wqA m c) (wkA m c) (wvA m c)
        (woutA m c) (wgateA m c) (bgateA m c) (ValueIdx.ix3 b t e)
      = G8 m c (ValueIdx.ix3 b t e) := by
  obtain ⟨M, hM⟩ := Ref.ref_apply (xA m c) (poolA m c) (maskA m c) (wqA m c) (wkA m c) (wvA m c) (woutA m c)
    (wgateA m c) (bgateA m c) (fun i => (xA m c i).toReal) (fun i => (poolA m c i).toReal) (fun i => (wqA m c i).toReal)
    (fun i => (wkA m c i).toReal) (fun i => (wvA m c i).toReal) h.x h.pool h.mask h.wq h.wk h.wv b t e _ (h.wout e)
  rw [hM, ← kernelShare_eq_softmaxShare, result_apply]
  exact (rowOut_real (fun d => (xA m c (ValueIdx.ix3 b t d)).toReal) (fun p s => (poolA m c (ValueIdx.ix3 b p s)).toReal)
    (fun s d => (wqA m c (ValueIdx.ix2 s d)).toReal) (fun s j => (wkA m c (ValueIdx.ix2 s j)).toReal)
    (fun d s => (wvA m c (ValueIdx.ix2 d s)).toReal) (fun d => xA m c (ValueIdx.ix3 b t d))
    (fun y => poolA m c (ValueIdx.ix3 b (y 1) (y 2))) (wqA m c) (wkA m c) (fun _ => h.x _) (fun _ _ => h.pool _)
    (fun _ _ => h.wq _) (fun _ _ => h.wk _) (wvA m c) (woutA m c) (wgateA m c) (biasRow (bgateA m c)) e _
    (fun _ _ => h.wv _) (h.wout e)).symm

/-- On usable arguments the two result arrays are equal. -/
theorem result_eq (h : Usable (xA m c) (poolA m c) (maskA m c) (wqA m c) (wkA m c) (wvA m c) (woutA m c)) :
    Cert.ReferenceIdeal.Read.val_main_v34 (F := Ideal) (xA m c) (poolA m c) (maskA m c) (wqA m c) (wkA m c) (wvA m c)
        (woutA m c) (wgateA m c) (bgateA m c) = G8 m c := by
  funext i
  rw [Ref.idx3 i (i 0) (i 1) (i 2) rfl rfl rfl]
  exact entry_eq m c h (i 0) (i 1) (i 2)

end Cert.PoolAttn

end
-- ==== Proof.lean ====
module

public import proofs.«01_k».proof.Defs
public import proofs.«01_k».proof.Proof.Gen.Kernel.Frame
public import proofs.«01_k».proof.Proof.Gen.KernelIdeal.Value
public import proofs.«01_k».proof.Proof.Equation
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem Cert.PoolAttn

/-- The reference runs from any memory, ends with its arguments unchanged, and leaves no semaphore count. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments and satisfy the precondition, kernel and reference leave the same result
    array and their arguments unchanged. -/
theorem same_result [Cert.Pre_mask_set_inputs_finite.Facts] :
    algebraic_KernelIdeal_ReferenceIdeal_pre_mask_set_inputs_finite := by
  intro m g m' g' hpre hagree
  refine ⟨_, Cert.KernelIdeal.Value.run (F := Ideal) m g, ?_⟩
  refine (θ_run Cert.ReferenceIdeal.defs _ _).mono (fun _ h c => ⟨?_, (h c).2⟩)
    (Cert.ReferenceIdeal.Value.run (F := Ideal) m' g')
  refine (h c).1.trans ((Cert.ReferenceIdeal.Read.val_main_v34_eq m' c).trans ?_)
  obtain ⟨h0, h1, h2, h3, h4, h5, h6, h7, h8⟩ := hagree c
  rw [h0, h1, h2, h3, h4, h5, h6, h7, h8]
  exact result_eq m c (usable_of_pre _ _ _ _ _ _ _ _ _ (hpre c))

/-- The claim, its conjuncts in order. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  IdealRules.named_const.statement Cert.KernelIdeal.κ "scale_log2e" .f32 0x3E38AA3B#32 _ rfl,
  @same_result preFacts⟩

end Cert.Proof

end
